-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![2048, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x2048 : Shape := ⟨2, ![512, 2048]⟩
abbrev S2x512x512 : Shape := ⟨3, ![2, 512, 512]⟩
abbrev S3x2x512x512 : Shape := ⟨4, ![3, 2, 512, 512]⟩
abbrev S2x2x512x512 : Shape := ⟨4, ![2, 2, 512, 512]⟩
abbrev S3x2 : Shape := ⟨2, ![3, 2]⟩
abbrev S2x2 : Shape := ⟨2, ![2, 2]⟩
abbrev S_ : Shape := ⟨0, ![]⟩
abbrev S512x512 : Shape := ⟨2, ![512, 512]⟩
abbrev S1x512x512 : Shape := ⟨3, ![1, 512, 512]⟩
abbrev S1x1 : Shape := ⟨2, ![1, 1]⟩
abbrev S512x1024 : Shape := ⟨2, ![512, 1024]⟩
abbrev S1x1x512x512 : Shape := ⟨4, ![1, 1, 512, 512]⟩

abbrev nBuf : Space → Nat
  | .hbm => 3
  | .vmem => 11
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S512x2048, .f32⟩
  | .local _ .vmem, ⟨0, _⟩ => ⟨S2048x512, .bf16⟩
  | .local _ .vmem, ⟨1, _⟩ => ⟨S512x2048, .bf16⟩
  | .local _ .vmem, ⟨2, _⟩ => ⟨S2x512x512, .fp8e4m3⟩
  | .local _ .vmem, ⟨3, _⟩ => ⟨S2x512x512, .fp8e4m3⟩
  | .local _ .vmem, ⟨4, _⟩ => ⟨S2x512x512, .fp8e4m3⟩
  | .local _ .vmem, ⟨5, _⟩ => ⟨S2x512x512, .fp8e4m3⟩
  | .local _ .vmem, ⟨6, _⟩ => ⟨S3x2x512x512, .bf16⟩
  | .local _ .vmem, ⟨7, _⟩ => ⟨S3x2x512x512, .bf16⟩
  | .local _ .vmem, ⟨8, _⟩ => ⟨S3x2x512x512, .bf16⟩
  | .local _ .vmem, ⟨9, _⟩ => ⟨S3x2x512x512, .bf16⟩
  | .local _ .vmem, ⟨10, _⟩ => ⟨S2x2x512x512, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c512_i32 : BitVec 32 := 512#32
  let v13 : BitVec 32 := Scalar.muli v5 c512_i32
  let v14 : Index := Scalar.indexCast v13
  let c0 : Index := 0#32
  ![v14.toNat, 0]
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_21 : BitVec 32 := 1#32
  let v24 : BitVec 32 := Scalar.muli v7 c1_i32_21
  let v25 : BitVec 32 := Scalar.addi c0_i32_22 v24
  v25.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_39 : BitVec 32 := 1#32
  let v45 : BitVec 32 := Scalar.muli v7 c1_i32_39
  let v46 : BitVec 32 := Scalar.addi c0_i32_40 v45
  v46.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c512_i32_45 : BitVec 32 := 512#32
  let v55 : BitVec 32 := Scalar.muli v7 c512_i32_45
  let v56 : Index := Scalar.indexCast v55
  let c0_46 : Index := 0#32
  ![v56.toNat, 0]
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_58 : BitVec 32 := 1#32
  let v66 : BitVec 32 := Scalar.muli v5 c1_i32_58
  let v67 : BitVec 32 := Scalar.addi c0_i32_59 v66
  v67.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_77 : BitVec 32 := 1#32
  let v87 : BitVec 32 := Scalar.muli v5 c1_i32_77
  let v88 : BitVec 32 := Scalar.addi c0_i32_78 v87
  v88.toNat
def k0_off3 (d0 : Dev nD) (c0_i32_84 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v97 : BitVec 32 := Scalar.addi v2 c8_i32
  let c2_i32_83 : BitVec 32 := 2#32
  let v98 : BitVec 32 := Scalar.subi v97 c2_i32_83
  let v99 : BitVec 32 := Scalar.subi v98 c0_i32_84
  let c4_i32_85 : BitVec 32 := 4#32
  let v100 : BitVec 32 := Scalar.remsi v99 c4_i32_85
  let c512_i32_86 : BitVec 32 := 512#32
  let v101 : BitVec 32 := Scalar.muli v100 c512_i32_86
  let v102 : Index := Scalar.indexCast v101
  let c0_87 : Index := 0#32
  ![v102.toNat, 0]
def k0_off4 (d0 : Dev nD) (c0_i32_110 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_109 : BitVec 32 := 2#32
  let v130 : BitVec 32 := Scalar.addi v2 c2_i32_109
  let v131 : BitVec 32 := Scalar.addi v130 c0_i32_110
  let c4_i32_111 : BitVec 32 := 4#32
  let v132 : BitVec 32 := Scalar.remsi v131 c4_i32_111
  let c512_i32_112 : BitVec 32 := 512#32
  let v133 : BitVec 32 := Scalar.muli v132 c512_i32_112
  let v134 : Index := Scalar.indexCast v133
  let c0_113 : Index := 0#32
  ![v134.toNat, 0]
def k0_dev7 (d0 : Dev nD) : Nat :=
  let c0_i32_161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_160 : BitVec 32 := 1#32
  let v177 : BitVec 32 := Scalar.muli v7 c1_i32_160
  let v178 : BitVec 32 := Scalar.addi c0_i32_161 v177
  v178.toNat
def k0_dev8 (d0 : Dev nD) : Nat :=
  let c0_i32_194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_193 : BitVec 32 := 1#32
  let v204 : BitVec 32 := Scalar.muli v5 c1_i32_193
  let v205 : BitVec 32 := Scalar.addi c0_i32_194 v204
  v205.toNat
def k0_dev9 (d0 : Dev nD) : Nat :=
  let c0_i32_227 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_226 : BitVec 32 := 1#32
  let v231 : BitVec 32 := Scalar.muli v7 c1_i32_226
  let v232 : BitVec 32 := Scalar.addi c0_i32_227 v231
  v232.toNat
def k0_dev10 (d0 : Dev nD) : Nat :=
  let c0_i32_260 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_259 : BitVec 32 := 1#32
  let v258 : BitVec 32 := Scalar.muli v5 c1_i32_259
  let v259 : BitVec 32 := Scalar.addi c0_i32_260 v258
  v259.toNat
def k0_dev11 (d0 : Dev nD) : Nat :=
  let c0_i32_295 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_294 : BitVec 32 := 1#32
  let v285 : BitVec 32 := Scalar.muli v7 c1_i32_294
  let v286 : BitVec 32 := Scalar.addi c0_i32_295 v285
  v286.toNat
def k0_dev12 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_330 : BitVec 32 := 1#32
  let v312 : BitVec 32 := Scalar.muli v5 c1_i32_330
  let v313 : BitVec 32 := Scalar.addi c0_i32_331 v312
  v313.toNat
def k0_dev13 (d0 : Dev nD) : Nat :=
  let c0_i32_367 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_366 : BitVec 32 := 1#32
  let v339 : BitVec 32 := Scalar.muli v7 c1_i32_366
  let v340 : BitVec 32 := Scalar.addi c0_i32_367 v339
  v340.toNat
def k0_dev14 (d0 : Dev nD) : Nat :=
  let c0_i32_403 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_402 : BitVec 32 := 1#32
  let v366 : BitVec 32 := Scalar.muli v5 c1_i32_402
  let v367 : BitVec 32 := Scalar.addi c0_i32_403 v366
  v367.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Proto.lean ====
/- The protocol of the kernel: its cells, its slots, what every slot holds, and the schedule of what each
   semaphore waits for and hands over. Stated over any float values. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Gemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The two rings -/

set_option backward.proofsInPublic true in
/-- Where device `c` sends in a direction: up the ring (`false`) or down it (`true`). -/
def tgt (d : Bool) (c : Dev nD) : Dev nD := ⟨(c.val + bif d then 3 else 1) % 4, Nat.mod_lt _ (by decide)⟩

theorem tgt_tgt (d : Bool) (c : Dev nD) : tgt (!d) (tgt d c) = c := by revert c d; decide
theorem tgt_tgt' (d : Bool) (c : Dev nD) : tgt d (tgt (!d) c) = c := by revert c d; decide

/-- The ring in a direction, as a permutation of the devices. -/
def ring (d : Bool) : Dev nD ≃ Dev nD := ⟨tgt d, tgt (!d), tgt_tgt d, tgt_tgt' d⟩

theorem dev1_eq (c : Dev nD) : (⟨k0_dev1 c, k0_dev1_lt c⟩ : Dev nD) = tgt true c := Fin.ext (k0_dev1_eq c)
theorem dev2_eq (c : Dev nD) : (⟨k0_dev2 c, k0_dev2_lt c⟩ : Dev nD) = tgt false c := Fin.ext (k0_dev2_eq c)
theorem dev3_eq (c : Dev nD) : (⟨k0_dev3 c, k0_dev3_lt c⟩ : Dev nD) = tgt false c := Fin.ext (k0_dev3_eq c)
theorem dev4_eq (c : Dev nD) : (⟨k0_dev4 c, k0_dev4_lt c⟩ : Dev nD) = tgt false c := Fin.ext (k0_dev4_eq c)
theorem dev5_eq (c : Dev nD) : (⟨k0_dev5 c, k0_dev5_lt c⟩ : Dev nD) = tgt true c := Fin.ext (k0_dev5_eq c)
theorem dev6_eq (c : Dev nD) : (⟨k0_dev6 c, k0_dev6_lt c⟩ : Dev nD) = tgt true c := Fin.ext (k0_dev6_eq c)
theorem dev7_eq (c : Dev nD) : (⟨k0_dev7 c, k0_dev7_lt c⟩ : Dev nD) = tgt false c := Fin.ext (k0_dev7_eq c)
theorem dev8_eq (c : Dev nD) : (⟨k0_dev8 c, k0_dev8_lt c⟩ : Dev nD) = tgt true c := Fin.ext (k0_dev8_eq c)
theorem dev9_eq (c : Dev nD) : (⟨k0_dev9 c, k0_dev9_lt c⟩ : Dev nD) = tgt false c := Fin.ext (k0_dev9_eq c)
theorem dev10_eq (c : Dev nD) : (⟨k0_dev10 c, k0_dev10_lt c⟩ : Dev nD) = tgt true c := Fin.ext (k0_dev10_eq c)
theorem dev11_eq (c : Dev nD) : (⟨k0_dev11 c, k0_dev11_lt c⟩ : Dev nD) = tgt false c := Fin.ext (k0_dev11_eq c)
theorem dev12_eq (c : Dev nD) : (⟨k0_dev12 c, k0_dev12_lt c⟩ : Dev nD) = tgt true c := Fin.ext (k0_dev12_eq c)
theorem dev13_eq (c : Dev nD) : (⟨k0_dev13 c, k0_dev13_lt c⟩ : Dev nD) = tgt false c := Fin.ext (k0_dev13_eq c)
theorem dev14_eq (c : Dev nD) : (⟨k0_dev14 c, k0_dev14_lt c⟩ : Dev nD) = tgt true c := Fin.ext (k0_dev14_eq c)

/-! ## The slots

A transfer is named by its direction, its hop and which half of the columns it carries. -/

abbrev Slot : Type := Bool × Fin 3 × Fin 2
abbrev Tile : Type := Bool × Fin 2

/-- What a hop's transfer holds: the first travels in the eight-bit type, the later two in bfloat16. -/
abbrev ety : Fin 3 → EltTy := fun | 0 => .fp8e4m3 | 1 => .bf16 | 2 => .bf16

section Slots
variable {e : EltTy}

theorem inb3 (s : Fin 2) : ∀ a, (![s.val, 0, 0] : Fin 3 → Nat) a + S1x512x512.size a ≤ S2x512x512.size a := by revert s; decide
theorem inb4 (h : Fin 3) (s : Fin 2) : ∀ a, (![h.val, s.val, 0, 0] : Fin 4 → Nat) a + S1x1x512x512.size a ≤ S3x2x512x512.size a := by revert h s; decide
theorem inb4' (r s : Fin 2) : ∀ a, (![r.val, s.val, 0, 0] : Fin 4 → Nat) a + S1x1x512x512.size a ≤ S2x2x512x512.size a := by revert r s; decide
theorem inbS (h : Fin 3) (s : Fin 2) : ∀ a, (![h.val, s.val] : Fin 2 → Nat) a + S1x1.size a ≤ S3x2.size a := by revert h s; decide
theorem inbS' (r s : Fin 2) : ∀ a, (![r.val, s.val] : Fin 2 → Nat) a + S1x1.size a ≤ S2x2.size a := by revert r s; decide

abbrev rect3 (s : Fin 2) : Rect S2x512x512 := Rect.unit (s := S2x512x512) ![s.val, 0, 0] S1x512x512.size (inb3 s)
abbrev rect4 (hs : Fin 3 × Fin 2) : Rect S3x2x512x512 := Rect.unit (s := S3x2x512x512) ![hs.1.val, hs.2.val, 0, 0] S1x1x512x512.size (inb4 hs.1 hs.2)
abbrev rect4' (rs : Fin 2 × Fin 2) : Rect S2x2x512x512 := Rect.unit (s := S2x2x512x512) ![rs.1.val, rs.2.val, 0, 0] S1x1x512x512.size (inb4' rs.1 rs.2)

abbrev slot3 (M : Memref sig .tc .vmem S2x512x512 e) (s : Fin 2) : Memref sig .tc .vmem S512x512 e :=
  (M.slice (rect3 s) (fun _ => rfl)).squeeze S512x512 squeezes_S1x512x512_S512x512
abbrev slot4 (M : Memref sig .tc .vmem S3x2x512x512 e) (hs : Fin 3 × Fin 2) : Memref sig .tc .vmem S512x512 e :=
  (M.slice (rect4 hs) (fun _ => rfl)).squeeze S512x512 squeezes_S1x1x512x512_S512x512
abbrev slot4' (M : Memref sig .tc .vmem S2x2x512x512 e) (rs : Fin 2 × Fin 2) : Memref sig .tc .vmem S512x512 e :=
  (M.slice (rect4' rs) (fun _ => rfl)).squeeze S512x512 squeezes_S1x1x512x512_S512x512
abbrev semAt (A : DmaSems sig S3x2) (h : Fin 3) (s : Fin 2) : DmaSem sig :=
  ((A.slice (Rect.unit (s := S3x2) ![h.val, s.val] S1x1.size (inbS h s))).squeeze S_ squeezes_S1x1_S_).sem
abbrev semAt' (A : DmaSems sig S2x2) (r s : Fin 2) : DmaSem sig :=
  ((A.slice (Rect.unit (s := S2x2) ![r.val, s.val] S1x1.size (inbS' r s))).squeeze S_ squeezes_S1x1_S_).sem

end Slots

abbrev xM : Memref sig .tc .vmem S2048x512 .bf16 := Memref.whole cc0_stg0_0
abbrev wM : Memref sig .tc .vmem S512x2048 .bf16 := Memref.whole cc0_stg1_0
abbrev oM : Memref sig .tc .hbm S512x2048 .f32 := Memref.whole main_v1
abbrev gM : Memref sig .tc .vmem S2x2x512x512 .f32 := Memref.whole cc0_scratch8

/-- The buffers of a direction: eight-bit and bfloat16, to send from and to receive into. -/
abbrev snd8 : Bool → Memref sig .tc .vmem S2x512x512 .fp8e4m3 := fun | false => Memref.whole cc0_scratch0 | true => Memref.whole cc0_scratch2
abbrev rcv8 : Bool → Memref sig .tc .vmem S2x512x512 .fp8e4m3 := fun | false => Memref.whole cc0_scratch1 | true => Memref.whole cc0_scratch3
abbrev snd16 : Bool → Memref sig .tc .vmem S3x2x512x512 .bf16 := fun | false => Memref.whole cc0_scratch4 | true => Memref.whole cc0_scratch6
abbrev rcv16 : Bool → Memref sig .tc .vmem S3x2x512x512 .bf16 := fun | false => Memref.whole cc0_scratch5 | true => Memref.whole cc0_scratch7
abbrev sendSems : Bool → DmaSems sig S3x2 := fun | false => cc0_scratch9 | true => cc0_scratch11
abbrev recvSems : Bool → DmaSems sig S3x2 := fun | false => cc0_scratch10 | true => cc0_scratch12

/-- A hop's slot among a direction's two buffers. -/
abbrev hopM (A : Memref sig .tc .vmem S2x512x512 .fp8e4m3) (B : Memref sig .tc .vmem S3x2x512x512 .bf16) (s : Fin 2) :
    (h : Fin 3) → Memref sig .tc .vmem S512x512 (ety h)
  | 0 => slot3 A s
  | 1 => slot4 B (1, s)
  | 2 => slot4 B (2, s)
/-- The slot a transfer reads and the slot it lands in. -/
abbrev sndM (σ : Slot) : Memref sig .tc .vmem S512x512 (ety σ.2.1) := hopM (snd8 σ.1) (snd16 σ.1) σ.2.2 σ.2.1
abbrev rcvM (σ : Slot) : Memref sig .tc .vmem S512x512 (ety σ.2.1) := hopM (rcv8 σ.1) (rcv16 σ.1) σ.2.2 σ.2.1

/-- A direction's number, and the first column of a tile of the result. -/
abbrev dn (d : Bool) : Fin 2 := match d with | false => 0 | true => 1
abbrev col : Tile → ℕ := fun | (false, 0) => 0 | (false, 1) => 512 | (true, 0) => 1024 | (true, 1) => 1536
theorem inbO (t : Tile) : ∀ a, (![0, col t] : Fin 2 → Nat) a + S512x512.size a ≤ S512x2048.size a := by revert t; decide
abbrev rectO (t : Tile) : Rect S512x2048 := Rect.unit (s := S512x2048) ![0, col t] S512x512.size (inbO t)
/-- The slot a tile of the result is finished in, and its place in the result. -/
abbrev gelM (t : Tile) : Memref sig .tc .vmem S512x512 .f32 := slot4' gM (dn t.1, t.2)
abbrev outM (t : Tile) : Memref sig .tc .hbm S512x512 .f32 := oM.slice (rectO t) (fun _ => rfl)

/-! ## The cells -/

/-- The runtime's barrier semaphore. -/
abbrev barS : Sem sig := (SemArray.scalar (sig.barrier 0 rfl) : Sems sig S_).sem

/-- The kernel's own semaphores: a transfer's on the sending side, on the receiving side, a tile's copy to the result. -/
abbrev Own : Type := (Slot ⊕ Slot) ⊕ Tile
abbrev sendS (σ : Slot) : DmaSem sig := semAt (sendSems σ.1) σ.2.1 σ.2.2
abbrev recvS (σ : Slot) : DmaSem sig := semAt (recvSems σ.1) σ.2.1 σ.2.2
abbrev outS (t : Tile) : DmaSem sig := semAt' cc0_scratch13 (dn t.1) t.2
abbrev odma : Own → DmaSem sig := fun | .inl (.inl σ) => sendS σ | .inl (.inr σ) => recvS σ | .inr t => outS t
abbrev osem (k : Own) : SemLoc sig := .dma (odma k)

theorem odma_injective : Function.Injective odma := by decide +kernel
theorem osem_injective : Function.Injective osem := fun a b h => odma_injective (SemLoc.dma.inj h)

abbrev CK : Type := Option Own
instance : DecidableEq Own := odma_injective.decidableEq
abbrev csem : CK → SemLoc sig := fun | none => .reg barS | some k => osem k
theorem csem_injective : Function.Injective csem := by
  intro a b h
  match a, b with
  | none, none => rfl
  | some a, some b => exact congrArg some (osem_injective h)
  | none, some b => exact absurd h (fun h => by cases h)
  | some a, none => exact absurd h (fun h => by cases h)

abbrev kcell (ck : Dev nD × CK) : GSem nD τ sig := ((ck.1 : Thread nD τ), csem ck.2)
abbrev barCell (c : Dev nD) : GSem nD τ sig := kcell (c, none)
abbrev sendCell (c : Dev nD) (σ : Slot) : GSem nD τ sig := kcell (c, some (.inl (.inl σ)))
abbrev recvCell (c : Dev nD) (σ : Slot) : GSem nD τ sig := kcell (c, some (.inl (.inr σ)))
abbrev outCell (c : Dev nD) (t : Tile) : GSem nD τ sig := kcell (c, some (.inr t))

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

open Classical in
/-- Which of the kernel's cells a semaphore is. -/
def kindOf (sm : SemLoc sig) : Option CK := if h : ∃ k, csem k = sm then some h.choose else none
theorem kindOf_csem (k : CK) : kindOf (csem k) = some k := by
  unfold kindOf
  have h : ∃ k', csem k' = csem k := ⟨k, rfl⟩
  rw [dif_pos h]; exact congrArg some (csem_injective h.choose_spec)
theorem kindOf_ne {sm : SemLoc sig} (h : ∀ k, csem k ≠ sm) : kindOf sm = none := by
  unfold kindOf; exact dif_neg fun ⟨k, hk⟩ => h k hk

/-! ## What the slots hold -/

/-- Device `c`'s staged blocks of the two operands. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

def xAt (c : Dev nD) (off : Fin 2 → ℕ) (inb : ∀ a, off a + S512x512.size a ≤ S2048x512.size a) : Vec F S512x512 .bf16 :=
  xM.view.readAt (Elt F) (Rect.unit (s := S2048x512) off S512x512.size inb).toLoadRect (xstg m c)
def wAt (c : Dev nD) (off : Fin 2 → ℕ) (inb : ∀ a, off a + S512x512.size a ≤ S512x2048.size a) : Vec F S512x512 .bf16 :=
  wM.view.readAt (Elt F) (Rect.unit (s := S512x2048) off S512x512.size inb).toLoadRect (wstg m c)
def wAt2 (c : Dev nD) (off : Fin 2 → ℕ) (inb : ∀ a, off a + S512x1024.size a ≤ S512x2048.size a) : Vec F S512x1024 .bf16 :=
  wM.view.readAt (Elt F) (Rect.unit (s := S512x2048) off S512x1024.size inb).toLoadRect (wstg m c)

/-- The products a device computes ahead: one a hop, for the chunk it will add to on that hop. -/
def locR0 (c : Dev nD) : FVec F S512x1024 .f32 := k0_pay5 (xAt m c (k0_off3 c 0#32) (k0_off3_inb c 0)) (wAt2 m c ![0, 0] inb_S512x2048_S512x1024_0_0)
def locR1 (c : Dev nD) : FVec F S512x1024 .f32 := k0_pay7 (k0_pay6 (xAt m c (k0_off3 c 1#32) (k0_off3_inb c 1))) (wAt2 m c ![0, 0] inb_S512x2048_S512x1024_0_0)
def locR2 (c : Dev nD) : FVec F S512x1024 .f32 := k0_pay8 (xAt m c (k0_off3 c 2#32) (k0_off3_inb c 2)) (wAt2 m c ![0, 0] inb_S512x2048_S512x1024_0_0)
def locL0 (c : Dev nD) : FVec F S512x1024 .f32 := k0_pay9 (xAt m c (k0_off4 c 0#32) (k0_off4_inb c 0)) (wAt2 m c ![0, 1024] inb_S512x2048_S512x1024_0_1024)
def locL1 (c : Dev nD) : FVec F S512x1024 .f32 := k0_pay10 (xAt m c (k0_off4 c 1#32) (k0_off4_inb c 1)) (wAt2 m c ![0, 1024] inb_S512x2048_S512x1024_0_1024)
def locL2 (c : Dev nD) : FVec F S512x1024 .f32 := k0_pay11 (xAt m c (k0_off4 c 2#32) (k0_off4_inb c 2)) (wAt2 m c ![0, 1024] inb_S512x2048_S512x1024_0_1024)

section Casts
variable {e : EltTy}
/-- A tile as a slot's load reads it, and back. -/
abbrev up3 (v : S512x512.Idx → Elt F e) : S1x512x512.Idx → Elt F e := shapeCast S1x512x512 v shapeCasts_S512x512_S1x512x512
abbrev up4 (v : S512x512.Idx → Elt F e) : S1x1x512x512.Idx → Elt F e := shapeCast S1x1x512x512 v shapeCasts_S512x512_S1x1x512x512
abbrev dn3 (v : S1x512x512.Idx → Elt F e) : S512x512.Idx → Elt F e := shapeCast S512x512 v shapeCasts_S1x512x512_S512x512
abbrev dn4 (v : S1x1x512x512.Idx → Elt F e) : S512x512.Idx → Elt F e := shapeCast S512x512 v shapeCasts_S1x1x512x512_S512x512
end Casts

/-- What device `c` sends on the first hop: its own product for the farthest chunk. -/
def snd0 (d : Bool) (s : Fin 2) (c : Dev nD) : S512x512.Idx → Elt F .fp8e4m3 := match d, s with
  | false, 0 => dn3 (F := F) (e := .fp8e4m3) (k0_pay1 (xAt m c (k0_off1 c) (k0_off1_inb c)) (wAt m c ![0, 0] inb_S512x2048_S512x512_0_0))
  | false, 1 => dn3 (F := F) (e := .fp8e4m3) (k0_pay2 (xAt m c (k0_off1 c) (k0_off1_inb c)) (wAt m c ![0, 512] inb_S512x2048_S512x512_0_512))
  | true, 0 => dn3 (F := F) (e := .fp8e4m3) (k0_pay3 (xAt m c (k0_off2 c) (k0_off2_inb c)) (wAt m c ![0, 1024] inb_S512x2048_S512x512_0_1024))
  | true, 1 => dn3 (F := F) (e := .fp8e4m3) (k0_pay4 (xAt m c (k0_off2 c) (k0_off2_inb c)) (wAt m c ![0, 1536] inb_S512x2048_S512x512_0_1536))

/-- On the second hop: what landed with its own product added. -/
def snd1 (d : Bool) (s : Fin 2) (c : Dev nD) : S512x512.Idx → Elt F .bf16 := match d, s with
  | false, 0 => dn4 (F := F) (e := .bf16) (k0_pay12 (locR0 m c) (up3 (snd0 m false 0 (tgt true c))))
  | false, 1 => dn4 (F := F) (e := .bf16) (k0_pay15 (k0_pay14 (locR0 m c) (up3 (snd0 m false 1 (tgt true c)))))
  | true, 0 => dn4 (F := F) (e := .bf16) (k0_pay13 (locL0 m c) (up3 (snd0 m true 0 (tgt false c))))
  | true, 1 => dn4 (F := F) (e := .bf16) (k0_pay17 (k0_pay16 (locL0 m c) (up3 (snd0 m true 1 (tgt false c)))))

/-- On the third hop: likewise. -/
def snd2 (d : Bool) (s : Fin 2) (c : Dev nD) : S512x512.Idx → Elt F .bf16 := match d, s with
  | false, 0 => dn4 (F := F) (e := .bf16) (k0_pay19 (locR1 m c) (k0_pay18 (up4 (snd1 m false 0 (tgt true c)))))
  | false, 1 => dn4 (F := F) (e := .bf16) (k0_pay21 (locR1 m c) (up4 (snd1 m false 1 (tgt true c))))
  | true, 0 => dn4 (F := F) (e := .bf16) (k0_pay20 (locL1 m c) (up4 (snd1 m true 0 (tgt false c))))
  | true, 1 => dn4 (F := F) (e := .bf16) (k0_pay22 (locL1 m c) (up4 (snd1 m true 1 (tgt false c))))

/-- A tile of device `c`'s result: what landed last with its own product added, through the activation. -/
def outC (t : Tile) (c : Dev nD) : S512x512.Idx → Elt F .f32 := match t with
  | (false, 0) => dn4 (F := F) (e := .f32) (k0_pay23 (locR2 m c) (up4 (snd2 m false 0 (tgt true c))))
  | (false, 1) => dn4 (F := F) (e := .f32) (k0_pay29 (k0_pay27 (locR2 m c) (up4 (snd2 m false 1 (tgt true c)))) (k0_pay28 (locR2 m c) (up4 (snd2 m false 1 (tgt true c)))))
  | (true, 0) => dn4 (F := F) (e := .f32) (k0_pay25 (k0_pay24 (locL2 m c) (up4 (snd2 m true 0 (tgt false c)))))
  | (true, 1) => dn4 (F := F) (e := .f32) (k0_pay31 (k0_pay30 (locL2 m c) (up4 (snd2 m true 1 (tgt false c)))) (Scalar.ofBits .f32 0x3F000000#32))

/-- What device `c` sends in a slot, and what lands in it. -/
def sndC (σ : Slot) (c : Dev nD) : S512x512.Idx → Elt F (ety σ.2.1) := match σ with
  | (d, 0, s) => snd0 m d s c
  | (d, 1, s) => snd1 m d s c
  | (d, 2, s) => snd2 m d s c
def rcvC (σ : Slot) (c : Dev nD) : S512x512.Idx → Elt F (ety σ.2.1) := sndC m σ (tgt (!σ.1) c)

/-! ## The schedule -/

section Any
variable {sp : Space} {s : Shape} {e : EltTy}
/-- A memref of device `c` owned whole, at some contents. -/
def any (c : Dev nD) (M : Memref sig .tc sp s e) : sProp 𝕄 := iprop(∃ X : s.Idx → Elt F e, owns (c : Thread nD τ) M fullShare X)
instance any_storable (c : Dev nD) (M : Memref sig .tc sp s e) : BI.Storable (upEmb : UEmb _ 𝕄) (any (F := F) c M) := by unfold any; infer_instance
end Any

/-- What a neighbour's signal hands device `c`: the neighbour's landing slots, one a hop and half. -/
def barPay (c : Dev nD) (d : Bool) : sProp 𝕄 := bigSep Finset.univ fun hs : Fin 3 × Fin 2 => any (F := F) (tgt d c) (rcvM (d, hs))

/-- What a cell hands over when its transfer lands. -/
def cellPay (c : Dev nD) (k : CK) (d : Bool) : sProp 𝕄 := match k with
  | none => barPay c d
  | some (.inl (.inl σ)) => any c (sndM σ)
  | some (.inl (.inr σ)) => owns (c : Thread nD τ) (rcvM σ) fullShare (rcvC m σ c)
  | some (.inr t) => iprop(owns (c : Thread nD τ) (outM t) fullShare (outC m t c) ∗ any c (gelM t))

/-- The amount of one transfer of a tile of an element type, whatever the buffer. -/
def tileN (e : EltTy) : ℕ := RefSig.tileCredit S512x512 e
theorem tileN_pos (e : EltTy) : 0 < tileN e := RefSig.tileCredit_pos _ _ (Shape.numel_pos fun a => by revert a; decide)
theorem credit_eq {sp : Space} {e : EltTy} (M : Memref sig .tc sp S512x512 e) : M.view.dmaCredit = tileN e := rfl

/-- The element type of a cell's one transfer. -/
def cty : Own → EltTy := fun | .inl (.inl σ) => ety σ.2.1 | .inl (.inr σ) => ety σ.2.1 | .inr _ => .f32

/-- The amount of a cell's one transfer, or of each signal to the barrier. -/
def amt : CK → ℕ := fun | none => 1 | some k => tileN (cty k)
theorem amt_some (k : Own) : amt (some k) = tileN (cty k) := rfl
theorem amt_pos (k : CK) : 0 < amt k := by
  match k with
  | none => exact Nat.one_pos
  | some k => rw [amt_some]; exact tileN_pos _

/-- The duties of a cell's one round: both neighbours' signals at the barrier, one transfer elsewhere. -/
abbrev duty : CK → Finset Bool := fun | none => Finset.univ | some _ => {false}

instance cellPay_storable (c : Dev nD) (k : CK) (d : Bool) : BI.Storable (upEmb : UEmb _ 𝕄) (cellPay (F := F) m c k d) := by
  match k with
  | none => show BI.Storable upEmb (barPay (F := F) c d); unfold barPay; infer_instance
  | some (.inl (.inl σ)) => exact any_storable c _
  | some (.inl (.inr σ)) => exact owns_storable _ _ _ _
  | some (.inr t) => show BI.Storable upEmb iprop(owns (c : Thread nD τ) (outM t) fullShare (outC m t c) ∗ any c (gelM t)); infer_instance

/-- One round a cell. -/
def Rd : Rounds.Schedule (GSem nD τ sig) Bool 𝕄 where
  duties g r := match kindOf g.2 with
    | some k => if r = 0 ∧ g.1.2 = .tc then duty k else ∅
    | none => ∅
  unitless _ := False
  amount g _ _ := match kindOf g.2 with | some k => amt k | none => 1
  payload g _ d := match kindOf g.2 with | some k => cellPay m g.1.1 k d | none => iprop(emp)
  amount_pos g _ _ _ := by
    split
    · exact amt_pos _
    · exact Nat.one_pos

instance Rd_payload_storable (g : GSem nD τ sig) (r : ℕ) (d : Bool) : BI.Storable (upEmb : UEmb _ 𝕄) ((Rd (F := F) m).payload g r d) := by
  show BI.Storable upEmb (match kindOf g.2 with | some k => cellPay m g.1.1 k d | none => iprop(emp))
  split <;> infer_instance

section Sched
variable (c : Dev nD) (k : CK)

theorem duties_at : (Rd (F := F) m).duties (kcell (c, k)) 0 = duty k := by
  dsimp only [Rd]; rw [kindOf_csem]; exact if_pos ⟨rfl, rfl⟩
theorem duties_later (g : GSem nD τ sig) : ∀ r, 1 ≤ r → (Rd (F := F) m).duties g r = ∅ := by
  intro r hr; dsimp only [Rd]; split
  · exact if_neg fun h => by omega
  · rfl
theorem amount_at (d : Bool) : (Rd (F := F) m).amount (kcell (c, k)) 0 d = amt k := by dsimp only [Rd]; rw [kindOf_csem]
theorem payload_at (d : Bool) : (Rd (F := F) m).payload (kcell (c, k)) 0 d = cellPay m c k d := by dsimp only [Rd]; rw [kindOf_csem]
theorem expect_bar : (Rd (F := F) m).expect (barCell c) 0 = 2 := by
  unfold Schedule.expect Schedule.amountOf
  rw [duties_at, Finset.sum_congr rfl fun d _ => amount_at m c none d]; rfl
theorem expect_own (k : Own) : (Rd (F := F) m).expect (kcell (c, some k)) 0 = amt (some k) := by
  unfold Schedule.expect Schedule.amountOf
  rw [duties_at, Finset.sum_singleton, amount_at]
theorem rest_own (k : Own) : bigSep ((Rd (F := F) m).duties (kcell (c, some k)) 0 \ ∅) (fun d => (Rd (F := F) m).payload (kcell (c, some k)) 0 d)
    = cellPay m c (some k) false := by
  rw [Finset.sdiff_empty, duties_at, bigSep_singleton, payload_at]
theorem rest_bar : bigSep ((Rd (F := F) m).duties (barCell c) 0 \ ∅) (fun d => (Rd (F := F) m).payload (barCell c) 0 d)
    = iprop(barPay (F := F) c false ∗ barPay c true) := by
  rw [Finset.sdiff_empty, duties_at, bigSep_univ_eq_bigSepL [false, true] (by decide) (by decide), bigSepL_cons_cons, bigSepL_singleton,
    payload_at, payload_at]
  rfl

end Sched

/-! ## What is owed, and the levels -/

/-- What device `c` owes while the transfers of `l` are still to be started. -/
def Ol (c : Dev nD) (l : List Slot) : CellTallies nD τ sig Unit :=
  l.foldr (fun σ O => O + tallyAt (recvCell (tgt σ.1 c) σ) () (tileN (ety σ.2.1))) 0
/-- The transfers in the order the kernel starts them. -/
abbrev order : List Slot :=
  [(false, 0, 0), (false, 0, 1), (true, 0, 0), (true, 0, 1), (false, 1, 0), (true, 1, 0), (false, 1, 1), (true, 1, 1),
    (false, 2, 0), (true, 2, 0), (false, 2, 1), (true, 2, 1)]
/-- After the first signal, and at the start. -/
def O₁ (c : Dev nD) : CellTallies nD τ sig Unit := Ol c order + tallyAt (barCell (tgt false c)) () 1
def O₀ (c : Dev nD) : CellTallies nD τ sig Unit := O₁ c + tallyAt (barCell (tgt true c)) () 1

def L (g : GSem nD τ sig) : Finset Unit := if g.1.2 = .tc then {()} else ∅
/-- A cell's level: the barrier first, then the landings by hop; what is never waited for while owing is at zero. -/
def klv : CK → ℕ := fun | none => 1 | some (.inl (.inr σ)) => 2 + σ.2.1.val | _ => 0
def lv (g : GSem nD τ sig) (_ : Unit) : ℕ := match kindOf g.2 with | some k => klv k | none => 0

theorem lv_at (c : Dev nD) (k : CK) : lv (kcell (c, k)) () = klv k := by unfold lv; rw [kindOf_csem]
theorem L_of_ne (g : GSem nD τ sig) (h : g.1.2 ≠ .tc) : L g = ∅ := if_neg h
theorem L_tc (c : Dev nD) (sm : SemLoc sig) : L ((c : Thread nD τ), sm) = {()} := if_pos rfl

theorem Ol_pos {c : Dev nD} {l : List Slot} {g : GSem nD τ sig} {u : Unit} (h : 0 < Ol c l g u) :
    ∃ σ ∈ l, g = recvCell (tgt σ.1 c) σ := by
  induction l with
  | nil => exact absurd h (Nat.lt_irrefl 0)
  | cons σ l ih =>
    rw [show Ol c (σ :: l) = Ol c l + tallyAt (recvCell (tgt σ.1 c) σ) () (tileN (ety σ.2.1)) from rfl,
      Pi.add_apply, Finsupp.add_apply, tallyAt_apply] at h
    by_cases hg : g = recvCell (tgt σ.1 c) σ ∧ u = ()
    · exact ⟨σ, List.mem_cons_self, hg.1⟩
    · rw [if_neg hg, Nat.add_zero] at h
      obtain ⟨σ', h', e⟩ := ih h
      exact ⟨σ', List.mem_cons_of_mem _ h', e⟩

theorem O₀_pos {c : Dev nD} {g : GSem nD τ sig} {u : Unit} (h : 0 < O₀ c g u) :
    (∃ σ, g = recvCell (tgt σ.1 c) σ) ∨ ∃ d, g = barCell (tgt d c) := by
  unfold O₀ O₁ at h
  rw [Pi.add_apply, Finsupp.add_apply, Pi.add_apply, Finsupp.add_apply, tallyAt_apply, tallyAt_apply] at h
  by_cases h1 : g = barCell (tgt false c) ∧ u = ()
  · exact .inr ⟨_, h1.1⟩
  by_cases h2 : g = barCell (tgt true c) ∧ u = ()
  · exact .inr ⟨_, h2.1⟩
  rw [if_neg h1, if_neg h2] at h; replace h : 0 < Ol c order g u := h
  obtain ⟨σ, -, e⟩ := Ol_pos h
  exact .inl ⟨σ, e⟩

/-- A device may wait at a cell below every landing it still owes. -/
theorem mayWait_of (c : Dev nD) (k : CK) (l : List Slot) (hl : ∀ σ ∈ l, klv k < 2 + σ.2.1.val) :
    (levAts L lv : sProp 𝕄) ⊢ MayWait (c : Thread nD τ) (csem k) () (Ol c l) :=
  MayOwe.of_cut (L := L) (lev := lv) (klv k) (fun p hp => by rw [Finset.mem_singleton.mp hp, L_tc]; exact Finset.mem_singleton_self _)
    (fun g u hg => by obtain ⟨σ, -, rfl⟩ := Ol_pos hg; exact Finset.mem_singleton_self _)
    (fun p hp => by rw [Finset.mem_singleton.mp hp]; exact le_of_eq (lv_at c k))
    (fun g u hg => by obtain ⟨σ, h, rfl⟩ := Ol_pos hg; rw [lv_at]; exact hl σ h)

end Cert.Gemm

end
-- ==== Proof.Steps.lean ====
/- The kernel's operations, one lemma a kind: a load and a store of a slot, a transfer started, a semaphore waited for. -/
module

public import proofs.«01_k».proof.Proof.Proto
public import Idealize.ShloMosaic.Lib.Pipeline.Value

@[expose] public section

noncomputable section

namespace Cert.Gemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- A program of device `c`, run to a postcondition. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## A slot loaded and stored -/

section Slot
variable {t : Shape} {e : EltTy} (c : Dev nD) (M : Memref sig .tc .vmem t e) (r : Rect t) (hr : ∀ a, r.stride a = 1)
  (hq : r.shape.Squeezes S512x512) (h' : S512x512.ShapeCasts r.shape) (h : r.shape.ShapeCasts S512x512)
  {α : Type} {Q : α → sProp (MT nD τ sig Unit (Elt F) ℕ UU ℕ)}

include h in
/-- A slot's load reads what the slot holds. -/
theorem slot_load {hl : M.view.LoadsAt r.toLoadRect} {k : (r.shape.Idx → Elt F e) → Prog (TpuEff nD τ sig (Elt F) Λ₀ .tc) α}
    (X : S512x512.Idx → Elt F e) :
    (owns (c : Thread nD τ) ((M.slice r hr).squeeze S512x512 hq) fullShare X : sProp 𝕄)
      ⊢ iprop((owns (c : Thread nD τ) ((M.slice r hr).squeeze S512x512 hq) fullShare X -∗ WP c (k (shapeCast r.shape X h')) Q)
          -∗ WP c (.op (.load M r.toLoadRect hl) k) Q) := by
  unfold owns
  iintro ⟨%f, %hf, H⟩ Hk
  have hX : shapeCast r.shape X h' = (M.access r).read (Elt F) f := by
    rw [← hf, Memref.read_squeeze_slice M r hr hq h f, shapeCast_shapeCast]; rfl
  have hs : ((M.slice r hr).squeeze S512x512 hq).view.set = (M.access r).set := Memref.set_view_squeeze _ hq
  rw [hX, hs]
  iapply (wp_load_rect 𝒱₀ (c : Thread nD τ) none Set.univ (m := M) (r := r) (S := (M.access r).set) subset_rfl) $$ H
  iintro H
  iapply Hk
  iexists f; isplitr
  · ipureintro; exact hf
  · iexact H

/-- A store to a slot leaves what was stored. -/
theorem slot_store {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} :
    (any c ((M.slice r hr).squeeze S512x512 hq) : sProp 𝕄)
      ⊢ iprop((owns (c : Thread nD τ) ((M.slice r hr).squeeze S512x512 hq) fullShare (shapeCast S512x512 w h) -∗ WP c (k ⟨⟩) Q)
          -∗ WP c (.op (.store M r w Finset.univ hx hm) k) Q) := by
  unfold any owns
  iintro ⟨%X, %f, %hf, H⟩ Hk
  have hs : ((M.slice r hr).squeeze S512x512 hq).view.set = (M.access r).set := Memref.set_view_squeeze _ hq
  rw [hs]
  iapply (wp_store 𝒱₀ (c : Thread nD τ) none Set.univ (m := M) (r := r) (Mk := Finset.univ) (S := (M.access r).set)
    (by rw [View.setOn_univ])) $$ H
  iintro H
  iapply Hk
  iexists ((M.access r).write (Elt F) f w Finset.univ); isplitr
  · ipureintro
    rw [Memref.read_squeeze_slice M r hr hq h]
    exact congrArg (fun v => shapeCast S512x512 v h) (View.read_write_univ _ _)
  · iexact H

end Slot

section Loads
variable (c : Dev nD) {α : Type} {Q : α → sProp (MT nD τ sig Unit (Elt F) ℕ UU ℕ)}

theorem load8 (M : Memref sig .tc .vmem S2x512x512 .fp8e4m3) (s : Fin 2) {hl : M.view.LoadsAt (rect3 s).toLoadRect}
    {k : (S1x512x512.Idx → Elt F .fp8e4m3) → Prog (TpuEff nD τ sig (Elt F) Λ₀ .tc) α} (X : S512x512.Idx → Elt F .fp8e4m3) :
    (owns (c : Thread nD τ) (slot3 M s) fullShare X : sProp 𝕄)
      ⊢ iprop((owns (c : Thread nD τ) (slot3 M s) fullShare X -∗ WP c (k (up3 X)) Q) -∗ WP c (.op (.load M (rect3 s).toLoadRect hl) k) Q) :=
  slot_load c M (rect3 s) (fun _ => rfl) squeezes_S1x512x512_S512x512 shapeCasts_S512x512_S1x512x512 shapeCasts_S1x512x512_S512x512 X

theorem load16 (M : Memref sig .tc .vmem S3x2x512x512 .bf16) (hs : Fin 3 × Fin 2) {hl : M.view.LoadsAt (rect4 hs).toLoadRect}
    {k : (S1x1x512x512.Idx → Elt F .bf16) → Prog (TpuEff nD τ sig (Elt F) Λ₀ .tc) α} (X : S512x512.Idx → Elt F .bf16) :
    (owns (c : Thread nD τ) (slot4 M hs) fullShare X : sProp 𝕄)
      ⊢ iprop((owns (c : Thread nD τ) (slot4 M hs) fullShare X -∗ WP c (k (up4 X)) Q) -∗ WP c (.op (.load M (rect4 hs).toLoadRect hl) k) Q) :=
  slot_load c M (rect4 hs) (fun _ => rfl) squeezes_S1x1x512x512_S512x512 shapeCasts_S512x512_S1x1x512x512 shapeCasts_S1x1x512x512_S512x512 X

/-- A load whose value the kernel drops. -/
theorem dead8 (M : Memref sig .tc .vmem S2x512x512 .fp8e4m3) (s : Fin 2) {hl : M.view.LoadsAt (rect3 s).toLoadRect}
    {p : Prog (TpuEff nD τ sig (Elt F) Λ₀ .tc) α} :
    (any c (slot3 M s) : sProp 𝕄) ⊢ iprop((any c (slot3 M s) -∗ WP c p Q) -∗ WP c (.op (.load M (rect3 s).toLoadRect hl) fun _ => p) Q) := by
  unfold any
  iintro ⟨%X, H⟩ Hk
  iapply (load8 c M s X) $$ H
  iintro H; iapply Hk; iexists X; iexact H

theorem dead16 (M : Memref sig .tc .vmem S3x2x512x512 .bf16) (hs : Fin 3 × Fin 2) {hl : M.view.LoadsAt (rect4 hs).toLoadRect}
    {p : Prog (TpuEff nD τ sig (Elt F) Λ₀ .tc) α} :
    (any c (slot4 M hs) : sProp 𝕄) ⊢ iprop((any c (slot4 M hs) -∗ WP c p Q) -∗ WP c (.op (.load M (rect4 hs).toLoadRect hl) fun _ => p) Q) := by
  unfold any
  iintro ⟨%X, H⟩ Hk
  iapply (load16 c M hs X) $$ H
  iintro H; iapply Hk; iexists X; iexact H

theorem deadg (M : Memref sig .tc .vmem S2x2x512x512 .f32) (rs : Fin 2 × Fin 2) {hl : M.view.LoadsAt (rect4' rs).toLoadRect}
    {p : Prog (TpuEff nD τ sig (Elt F) Λ₀ .tc) α} :
    (any c (slot4' M rs) : sProp 𝕄) ⊢ iprop((any c (slot4' M rs) -∗ WP c p Q) -∗ WP c (.op (.load M (rect4' rs).toLoadRect hl) fun _ => p) Q) := by
  unfold any
  iintro ⟨%X, H⟩ Hk
  iapply (slot_load c M (rect4' rs) (fun _ => rfl) squeezes_S1x1x512x512_S512x512 shapeCasts_S512x512_S1x1x512x512 shapeCasts_S1x1x512x512_S512x512 X) $$ H
  iintro H; iapply Hk; iexists X; iexact H

theorem store8 (M : Memref sig .tc .vmem S2x512x512 .fp8e4m3) (s : Fin 2) {w : S1x512x512.Idx → Elt F .fp8e4m3}
    {hx : (M.access (rect3 s)).Stores Finset.univ} {hm : (Finset.univ : Finset (rect3 s).shape.Idx) = Finset.univ ∨ ∀ a, (rect3 s).stride a = 1}
    {k : PUnit → Prog (TpuEff nD τ sig (Elt F) Λ₀ .tc) α} :
    (any c (slot3 M s) : sProp 𝕄)
      ⊢ iprop((owns (c : Thread nD τ) (slot3 M s) fullShare (dn3 w) -∗ WP c (k ⟨⟩) Q) -∗ WP c (.op (.store M (rect3 s) w Finset.univ hx hm) k) Q) :=
  slot_store c M (rect3 s) (fun _ => rfl) squeezes_S1x512x512_S512x512 shapeCasts_S1x512x512_S512x512

theorem store16 (M : Memref sig .tc .vmem S3x2x512x512 .bf16) (hs : Fin 3 × Fin 2) {w : S1x1x512x512.Idx → Elt F .bf16}
    {hx : (M.access (rect4 hs)).Stores Finset.univ} {hm : (Finset.univ : Finset (rect4 hs).shape.Idx) = Finset.univ ∨ ∀ a, (rect4 hs).stride a = 1}
    {k : PUnit → Prog (TpuEff nD τ sig (Elt F) Λ₀ .tc) α} :
    (any c (slot4 M hs) : sProp 𝕄)
      ⊢ iprop((owns (c : Thread nD τ) (slot4 M hs) fullShare (dn4 w) -∗ WP c (k ⟨⟩) Q) -∗ WP c (.op (.store M (rect4 hs) w Finset.univ hx hm) k) Q) :=
  slot_store c M (rect4 hs) (fun _ => rfl) squeezes_S1x1x512x512_S512x512 shapeCasts_S1x1x512x512_S512x512

theorem storeg (M : Memref sig .tc .vmem S2x2x512x512 .f32) (rs : Fin 2 × Fin 2) {w : S1x1x512x512.Idx → Elt F .f32}
    {hx : (M.access (rect4' rs)).Stores Finset.univ} {hm : (Finset.univ : Finset (rect4' rs).shape.Idx) = Finset.univ ∨ ∀ a, (rect4' rs).stride a = 1}
    {k : PUnit → Prog (TpuEff nD τ sig (Elt F) Λ₀ .tc) α} :
    (any c (slot4' M rs) : sProp 𝕄)
      ⊢ iprop((owns (c : Thread nD τ) (slot4' M rs) fullShare (dn4 w) -∗ WP c (k ⟨⟩) Q) -∗ WP c (.op (.store M (rect4' rs) w Finset.univ hx hm) k) Q) :=
  slot_store c M (rect4' rs) (fun _ => rfl) squeezes_S1x1x512x512_S512x512 shapeCasts_S1x1x512x512_S512x512

/-- Loads of blocks of the staged operands. -/
theorem x_load (off : Fin 2 → ℕ) (inb : ∀ a, off a + S512x512.size a ≤ S2048x512.size a)
    {hl : xM.view.LoadsAt (Rect.unit (s := S2048x512) off S512x512.size inb).toLoadRect}
    {k : (S512x512.Idx → Elt F .bf16) → Prog (TpuEff nD τ sig (Elt F) Λ₀ .tc) α} :
    (xM.view.loc (c : Thread nD τ) ↦{fullShare} xstg m c : sProp 𝕄)
      ⊢ iprop(((xM.view.loc (c : Thread nD τ) ↦{fullShare} xstg m c) -∗ WP c (k (xAt m c off inb)) Q)
        -∗ WP c (.op (.load xM (Rect.unit (s := S2048x512) off S512x512.size inb).toLoadRect hl) k) Q) :=
  wp_load 𝒱₀ (c : Thread nD τ) none Set.univ (Finset.subset_univ _)
theorem w_load (off : Fin 2 → ℕ) (inb : ∀ a, off a + S512x512.size a ≤ S512x2048.size a)
    {hl : wM.view.LoadsAt (Rect.unit (s := S512x2048) off S512x512.size inb).toLoadRect}
    {k : (S512x512.Idx → Elt F .bf16) → Prog (TpuEff nD τ sig (Elt F) Λ₀ .tc) α} :
    (wM.view.loc (c : Thread nD τ) ↦{fullShare} wstg m c : sProp 𝕄)
      ⊢ iprop(((wM.view.loc (c : Thread nD τ) ↦{fullShare} wstg m c) -∗ WP c (k (wAt m c off inb)) Q)
        -∗ WP c (.op (.load wM (Rect.unit (s := S512x2048) off S512x512.size inb).toLoadRect hl) k) Q) :=
  wp_load 𝒱₀ (c : Thread nD τ) none Set.univ (Finset.subset_univ _)
theorem w_load2 (off : Fin 2 → ℕ) (inb : ∀ a, off a + S512x1024.size a ≤ S512x2048.size a)
    {hl : wM.view.LoadsAt (Rect.unit (s := S512x2048) off S512x1024.size inb).toLoadRect}
    {k : (S512x1024.Idx → Elt F .bf16) → Prog (TpuEff nD τ sig (Elt F) Λ₀ .tc) α} :
    (wM.view.loc (c : Thread nD τ) ↦{fullShare} wstg m c : sProp 𝕄)
      ⊢ iprop(((wM.view.loc (c : Thread nD τ) ↦{fullShare} wstg m c) -∗ WP c (k (wAt2 m c off inb)) Q)
        -∗ WP c (.op (.load wM (Rect.unit (s := S512x2048) off S512x1024.size inb).toLoadRect hl) k) Q) :=
  wp_load 𝒱₀ (c : Thread nD τ) none Set.univ (Finset.subset_univ _)

end Loads

/-! ## The records, transfers and waits -/

/-- Every cell's invariant is in force and its first round reached. -/
def recs (K : Dev nD × CK → ℕ) : sProp 𝕄 :=
  iprop((bigSep Finset.univ fun ck : Dev nD × CK => cellInv ER (Rd m) (K ck) (kcell ck))
    ∗ (bigSep Finset.univ fun ck : Dev nD × CK => reached ER (kcell ck) 0))
instance recs_persistent (K : Dev nD × CK → ℕ) : BI.Persistent (recs m K) := by unfold recs; infer_instance

variable (K : Dev nD × CK → ℕ)

theorem inv_at (ck : Dev nD × CK) : recs m K ⊢ cellInv ER (Rd m) (K ck) (kcell ck) := by
  unfold recs; refine sep_elim_left.trans ?_
  exact bigSep_elim (Finset.mem_univ ck)
theorem reached_at (ck : Dev nD × CK) : recs m K ⊢ reached ER (kcell ck) 0 := by
  unfold recs; refine sep_elim_right.trans ?_
  exact bigSep_elim (Finset.mem_univ ck)

/-- What device `c` owes while the transfers of `l` are still to be started. -/
def OW (c : Dev nD) (l : List Slot) : sProp 𝕄 := iprop(∃ W : Waits sig Unit, owes (c : Thread nD τ) (Ol c l) W)

/-- The right to start transfer `σ`. -/
def tok (c : Dev nD) (σ : Slot) : sProp 𝕄 :=
  iprop(dutyTok ER (sendCell c σ) 0 false ∗ dutyTok ER (recvCell (tgt σ.1 c) σ) 0 false)
/-- The right to wait for own cell `k`'s one round. -/
def right (c : Dev nD) (k : Own) : sProp 𝕄 :=
  iprop(cred (tallyAt (kcell (c, some k)) () (tileN (cty k))) ∗ atPos ER (kcell (c, some k)) 0 ∅ 0)

section Ops
variable (c : Dev nD) {α : Type} {Q : α → sProp (MT nD τ sig Unit (Elt F) ℕ UU ℕ)}

theorem rcvC_tgt (σ : Slot) (c : Dev nD) : rcvC m σ (tgt σ.1 c) = sndC m σ c := by unfold rcvC; rw [tgt_tgt]

theorem any_read {sp : Space} {sh : Shape} {e : EltTy} (c : Dev nD) (M : Memref sig .tc sp sh e) (f : Buf (Elt F) (M.view.loc (c : Thread nD τ))) :
    (M.view.loc (c : Thread nD τ) ↦[M.view.set]{fullShare} f : sProp 𝕄) ⊢ any c M := by
  unfold any; iintro H; iexists (M.view.read (Elt F) f)
  iapply (owns_intro (c : Thread nD τ) M fullShare f); iexact H

theorem owns_landed {sp : Space} {sh : Shape} {e : EltTy} (c : Dev nD) (M : Memref sig .tc sp sh e) (f : Buf (Elt F) (M.view.loc (c : Thread nD τ))) (X : sh.Idx → Elt F e) :
    (M.view.loc (c : Thread nD τ) ↦[M.view.set]{fullShare} M.view.write (Elt F) f X Finset.univ : sProp 𝕄) ⊢ owns (c : Thread nD τ) M fullShare X := by
  have h := View.read_write_univ (v := M.view) (Val := Elt F) f X
  unfold owns; iintro H; iexists (M.view.write (Elt F) f X Finset.univ); isplitr
  · ipureintro; exact h
  · iexact H

/-- Transfer `σ` started: the sent slot and the neighbour's landing slot go, the wait for its departure is earned. -/
theorem send_step (σ : Slot) (l : List Slot) {X : S512x512.Idx → Elt F (ety σ.2.1)} {n : Dev nD} (hn : n = tgt σ.1 c)
    {hsc : (rcvM σ : Memref sig (Dev.tc n : Thread nD τ).2.kind .vmem S512x512 (ety σ.2.1)).view.ref.isScScratch = false}
    {hsrc : (sndM σ).view.WordExact} {hdst : (rcvM σ : Memref sig .tc .vmem S512x512 (ety σ.2.1)).view.WordExact}
    {hsem : DmaTarget.Typed .vmem (.dma (recvS σ)) (.remote (Dev.tc n : Thread nD τ) (rcvM σ : Memref sig .tc .vmem S512x512 (ety σ.2.1)) (.dma (sendS σ)) hsc)}
    {k : PUnit → Prog (TpuEff nD τ sig (Elt F) Λ₀ .tc) α} :
    recs m K ⊢ iprop(owns (c : Thread nD τ) (sndM σ) fullShare X -∗ ⌜X = sndC m σ c⌝ -∗ any (tgt σ.1 c) (rcvM σ) -∗ tok c σ
        -∗ atPos ER (sendCell c σ) 0 ∅ 0 -∗ OW c (σ :: l)
        -∗ (iprop(right c (.inl (.inl σ)) ∗ OW c l) -∗ WP c (k ⟨⟩) Q)
        -∗ WP c (.op (.enqueueDma (sndM σ) (.remote (Dev.tc n : Thread nD τ) (rcvM σ) (.dma (sendS σ)) hsc) (.dma (recvS σ)) hsrc hdst hsem) k) Q) := by
  subst hn
  unfold tok OW any right owns
  iintro #HR ⟨%fs, %hfs, Hs⟩ %hX ⟨%Y, %fd, %hfd, Hd⟩ ⟨HtS, HtV⟩ Hat ⟨%W, HO⟩ Hk
  rw [hX] at hfs
  iapply (Rounds.wp_send_pointsTo 𝒱₀ ER (Rd m) (c : Thread nD τ) none (κ₁ := K (c, some (.inl (.inl σ)))) (κ₂ := K (tgt σ.1 c, some (.inl (.inr σ))))
    (r₁ := 0) (r₂ := 0) (d₁ := false) (d₂ := false) (fs := fs) (fd := fd) (src := sndM σ) (dst := rcvM σ) (c' := (tgt σ.1 c : Thread nD τ)) (sS := .dma (sendS σ)) (sem := .dma (recvS σ)) (q := fullShare)
    (by rw [duties_at m c (some (.inl (.inl σ)))]; exact Finset.mem_singleton_self _)
    (by rw [duties_at m (tgt σ.1 c) (some (.inl (.inr σ)))]; exact Finset.mem_singleton_self _)
    () () (tileN (ety σ.2.1)) (credit_eq _) (amount_at m c (some (.inl (.inl σ))) false) (amount_at m (tgt σ.1 c) (some (.inl (.inr σ))) false)
    (Ol c l) (O₀ := Ol c (σ :: l)) rfl (W := W)
    (by rw [payload_at m c (some (.inl (.inl σ)))]; exact any_read c (sndM σ) fs)
    (by rw [payload_at m (tgt σ.1 c) (some (.inl (.inr σ)))]
        show _ ⊢ owns (tgt σ.1 c : Thread nD τ) (rcvM σ) fullShare (rcvC m σ (tgt σ.1 c))
        rw [rcvC_tgt, ← hfs]; exact owns_landed (tgt σ.1 c) (rcvM σ) fd _)) $$ [Hs Hd HtS HtV HO]
  · isplitr; · iapply (inv_at m K (c, some (.inl (.inl σ)))); iexact HR
    isplitr; · iapply (inv_at m K (tgt σ.1 c, some (.inl (.inr σ)))); iexact HR
    isplitl [Hs]; · iexact Hs
    isplitl [Hd]; · iexact Hd
    isplitl [HO]; · iexact HO
    isplitl [HtS]; · iexact HtS
    isplitr; · iapply (reached_at m K (c, some (.inl (.inl σ)))); iexact HR
    isplitl [HtV]; · iexact HtV
    iapply (reached_at m K (tgt σ.1 c, some (.inl (.inr σ)))); iexact HR
  iintro ⟨Hc, HO⟩
  iapply Hk
  isplitr [HO]
  · isplitl [Hc]; · iexact Hc
    iexact Hat
  · iexists W; iexact HO

/-- A tile copied to the result. -/
theorem out_step (t : Tile) {X : S512x512.Idx → Elt F .f32} {hsrc : (gelM t).view.WordExact} {hdst : (outM t).view.WordExact}
    {hsem : DmaTarget.Typed (nD := nD) (τ := τ) (p := .tc) .vmem (.dma (outS t)) (.here (outM t))}
    {k : PUnit → Prog (TpuEff nD τ sig (Elt F) Λ₀ .tc) α} :
    recs m K ⊢ iprop(owns (c : Thread nD τ) (gelM t) fullShare X -∗ ⌜X = outC m t c⌝ -∗ any c (outM t) -∗ dutyTok ER (outCell c t) 0 false
        -∗ atPos ER (outCell c t) 0 ∅ 0
        -∗ (right c (.inr t) -∗ WP c (k ⟨⟩) Q)
        -∗ WP c (.op (.enqueueDma (gelM t) (.here (outM t)) (.dma (outS t)) hsrc hdst hsem) k) Q) := by
  unfold any right owns
  iintro #HR ⟨%fs, %hfs, Hs⟩ %hX ⟨%Y, %fd, %hfd, Hd⟩ Ht Hat Hk
  rw [hX] at hfs
  iapply (Rounds.wp_copy_pointsTo 𝒱₀ ER (Rd m) (c : Thread nD τ) none (κ := K (c, some (.inr t))) (r := 0) (d := false) (fs := fs) (fd := fd)
    (src := gelM t) (dst := outM t) (sem := .dma (outS t)) (q := fullShare)
    (by rw [duties_at m c (some (.inr t))]; exact Finset.mem_singleton_self _) () (tileN .f32) (credit_eq _) (amount_at m c (some (.inr t)) false)
    (by rw [payload_at m c (some (.inr t))]
        show _ ⊢ iprop(owns (c : Thread nD τ) (outM t) fullShare (outC m t c) ∗ any c (gelM t))
        rw [← hfs]
        iintro ⟨H1, H2⟩
        isplitl [H1]
        · iapply (owns_landed c (outM t) fd _); iexact H1
        · iapply (any_read c (gelM t) fs); iexact H2)) $$ [Hs Hd Ht]
  · isplitr; · iapply (inv_at m K (c, some (.inr t))); iexact HR
    isplitl [Hs]; · iexact Hs
    isplitl [Hd]; · iexact Hd
    isplitl [Ht]; · iexact Ht
    iapply (reached_at m K (c, some (.inr t))); iexact HR
  iintro Hc
  iapply Hk
  isplitl [Hc]; · iexact Hc
  iexact Hat

/-- An own cell's one wait: what the transfer hands over, and the cell's counter back at zero. -/
theorem wait_step (o : Own) (l : List Slot) (hl : ∀ σ ∈ l, klv (some o) < 2 + σ.2.1.val)
    {sp sp' : Space} {sh' : Shape} {e' : EltTy} {src : Memref sig .tc sp' sh' e'} {dst : Memref sig .tc sp S512x512 (cty o)}
    {hsrc : src.view.WordExact} {hdst : dst.view.WordExact}
    {k : PUnit → Prog (TpuEff nD τ sig (Elt F) Λ₀ .tc) α} :
    recs m K ⊢ iprop(levAts L lv -∗ right c o -∗ OW c l
        -∗ (iprop(OW c l ∗ cellPay m c (some o) false ∗ semVal (kcell (c, some o)) 0) -∗ WP c (k ⟨⟩) Q)
        -∗ WP c (.op (.waitDma2 (odma o) src dst hsrc hdst) k) Q) := by
  unfold right OW
  rw [← credit_eq dst]
  iintro #HR #Hlev ⟨Hc, Hat⟩ ⟨%W, HO⟩ Hk
  iapply (Rounds.wp_wait_rest_token 𝒱₀ ER (Rd m) (c : Thread nD τ) none (κ := K (c, some o)) (sm := osem o) (k' := dst.view.dmaCredit)
      (wpE_waitDma2_eq 𝒱₀ (c : Thread nD τ) none Set.univ) (Set.mem_univ _) () (O := Ol c l) (W := W) (R := 0) (m := 0) (T := ∅)
      (by rw [Nat.zero_add, credit_eq dst]; exact (expect_own m c o).symm)) $$ [Hc HO Hat]
  · isplitr; · iapply (inv_at m K (c, some o)); iexact HR
    isplitl [Hc]; · iexact Hc
    isplitl [HO]; · iexact HO
    isplitr; · iapply (mayWait_of c (some o) l hl); iexact Hlev
    iexact Hat
  iintro ⟨HO, Hat, -, Hpay⟩
  ihave Hp := (Entails.of_eq (rest_own m c o)) $$ Hpay
  imod (Rounds.cell_close ER (Rd m) (g := kcell (c, some o)) (Set.mem_univ (K (c, some o))) (fun h => h) (R := 0 + 1) (duties_later m (kcell (c, some o)))) $$ [Hat] with Hz
  · isplitr; · iapply (inv_at m K (c, some o)); iexact HR
    iexact Hat
  iapply Hk
  isplitl [HO]; · iexists (insert (osem o, ()) W); iexact HO
  isplitl [Hp] <;> iassumption

/-- The wait for a landing: the slot holds what the neighbour sent. -/
theorem land_step (σ : Slot) (l : List Slot) (hl : ∀ σ' ∈ l, klv (some (.inl (.inr σ))) < 2 + σ'.2.1.val)
    (Y : S512x512.Idx → Elt F (ety σ.2.1)) (hY : rcvC m σ c = Y)
    {sp sp' : Space} {sh' : Shape} {e' : EltTy} {src : Memref sig .tc sp' sh' e'} {dst : Memref sig .tc sp S512x512 (ety σ.2.1)}
    {hsrc : src.view.WordExact} {hdst : dst.view.WordExact}
    {k : PUnit → Prog (TpuEff nD τ sig (Elt F) Λ₀ .tc) α} :
    recs m K ⊢ iprop(levAts L lv -∗ right c (.inl (.inr σ)) -∗ OW c l
        -∗ (iprop(OW c l ∗ owns (c : Thread nD τ) (rcvM σ) fullShare Y ∗ semVal (recvCell c σ) 0) -∗ WP c (k ⟨⟩) Q)
        -∗ WP c (.op (.waitDma2 (recvS σ) src dst hsrc hdst) k) Q) := by
  subst hY; exact wait_step m K c (.inl (.inr σ)) l hl

/-- The wait for a departure: the slot is free again. -/
theorem leave_step (σ : Slot)
    {sp sp' : Space} {sh' : Shape} {e' : EltTy} {src : Memref sig .tc sp' sh' e'} {dst : Memref sig .tc sp S512x512 (ety σ.2.1)}
    {hsrc : src.view.WordExact} {hdst : dst.view.WordExact}
    {k : PUnit → Prog (TpuEff nD τ sig (Elt F) Λ₀ .tc) α} :
    recs m K ⊢ iprop(levAts L lv -∗ right c (.inl (.inl σ)) -∗ OW c []
        -∗ (iprop(OW c [] ∗ any c (sndM σ) ∗ semVal (sendCell c σ) 0) -∗ WP c (k ⟨⟩) Q)
        -∗ WP c (.op (.waitDma2 (sendS σ) src dst hsrc hdst) k) Q) :=
  wait_step m K c (.inl (.inl σ)) [] (fun _ h => absurd h List.not_mem_nil)

/-- The wait for a tile's copy: the tile is in the result. -/
theorem done_step (t : Tile)
    {sp sp' : Space} {sh' : Shape} {e' : EltTy} {src : Memref sig .tc sp' sh' e'} {dst : Memref sig .tc sp S512x512 .f32}
    {hsrc : src.view.WordExact} {hdst : dst.view.WordExact}
    {k : PUnit → Prog (TpuEff nD τ sig (Elt F) Λ₀ .tc) α} :
    recs m K ⊢ iprop(levAts L lv -∗ right c (.inr t) -∗ OW c []
        -∗ (iprop(OW c [] ∗ (owns (c : Thread nD τ) (outM t) fullShare (outC m t c) ∗ any c (gelM t)) ∗ semVal (outCell c t) 0) -∗ WP c (k ⟨⟩) Q)
        -∗ WP c (.op (.waitDma2 (outS t) src dst hsrc hdst) k) Q) :=
  wait_step m K c (.inr t) [] (fun _ h => absurd h List.not_mem_nil)

end Ops

end Cert.Gemm

end
-- ==== Proof.Body.lean ====
/- The body of the kernel, run once at a symbolic device. -/
module

public import proofs.«01_k».proof.Proof.Steps

@[expose] public section

noncomputable section

namespace Cert.Gemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## What the body starts from and leaves -/

/-- A transfer's part: its slot, the right to start it, its departure's place, the right to wait for its landing. -/
def kit (c : Dev nD) (σ : Slot) : sProp 𝕄 :=
  iprop(any c (sndM σ) ∗ tok c σ ∗ atPos ER (sendCell c σ) 0 ∅ 0 ∗ right c (.inl (.inr σ)))
/-- A result tile's part. -/
def tileKit (c : Dev nD) (t : Tile) : sProp 𝕄 :=
  iprop(any c (gelM t) ∗ any c (outM t) ∗ dutyTok ER (outCell c t) 0 false ∗ atPos ER (outCell c t) 0 ∅ 0)
/-- A direction's landing slots on device `c`. -/
def lands (c : Dev nD) (d : Bool) : sProp 𝕄 := bigSep Finset.univ fun hs : Fin 3 × Fin 2 => any (F := F) c (rcvM (d, hs))
/-- The part at the barrier: the right to signal either neighbour, and to wait for both signals. -/
def barKit (c : Dev nD) : sProp 𝕄 :=
  iprop(dutyTok ER (barCell (tgt true c)) 0 false ∗ dutyTok ER (barCell (tgt false c)) 0 true
    ∗ cred (tallyAt (barCell c) () 2) ∗ atPos ER (barCell c) 0 ∅ 0)
/-- Both staged operands. -/
def staged (c : Dev nD) : sProp 𝕄 :=
  iprop((xM.view.loc (c : Thread nD τ) ↦{fullShare} xstg m c) ∗ (wM.view.loc (c : Thread nD τ) ↦{fullShare} wstg m c))

def bodyPre (c : Dev nD) : sProp 𝕄 :=
  iprop((recs m K ∗ levAts L lv) ∗ bigSep Finset.univ (kit (F := F) c) ∗ bigSep Finset.univ (tileKit (F := F) c)
    ∗ lands c false ∗ lands c true ∗ barKit c ∗ (∃ W : Waits sig Unit, owes (c : Thread nD τ) (O₀ c) W) ∗ staged m c)

/-- A transfer's part at the end: both its slots, both its counters at zero. -/
def kitDone (c : Dev nD) (σ : Slot) : sProp 𝕄 :=
  iprop(any c (sndM σ) ∗ any c (rcvM σ) ∗ semVal (sendCell c σ) 0 ∗ semVal (recvCell c σ) 0)
/-- A result tile's: the tile in the result, its scratch slot, its counter at zero. -/
def tileDone (c : Dev nD) (t : Tile) : sProp 𝕄 :=
  iprop((owns (c : Thread nD τ) (outM t) fullShare (outC m t c) ∗ any c (gelM t)) ∗ semVal (outCell c t) 0)

def bodyPost (c : Dev nD) : sProp 𝕄 :=
  iprop(bigSep Finset.univ (kitDone (F := F) c) ∗ bigSep Finset.univ (tileDone m c) ∗ semVal (barCell c) 0 ∗ OW c [] ∗ staged m c)

/-! ## The barrier -/

section Bar
variable (c : Dev nD) {α : Type} {Q : α → sProp (MT nD τ sig Unit (Elt F) ℕ UU ℕ)}

theorem lands_pay (d : Bool) : lands (F := F) c d ⊢ cellPay m (tgt (!d) c) none d := by
  show _ ⊢ barPay (F := F) (tgt (!d) c) d
  unfold barPay lands
  rw [tgt_tgt']

/-- A signal to a neighbour's barrier, handing over the landing slots it sends into. -/
theorem signal_step (d d' : Bool) (hd : d' = !d) {n : Dev nD} (hn : n = tgt d' c) (O O' : CellTallies nD τ sig Unit)
    (hO : O' = O + tallyAt (barCell (tgt d' c)) () 1) {k : PUnit → Prog (TpuEff nD τ sig (Elt F) Λ₀ .tc) α} :
    recs m K ⊢ iprop(lands c d -∗ dutyTok ER (barCell (tgt d' c)) 0 d -∗ (∃ W : Waits sig Unit, owes (c : Thread nD τ) O' W)
      -∗ ((∃ W : Waits sig Unit, owes (c : Thread nD τ) O W) -∗ WP c (k ⟨⟩) Q)
      -∗ WP c (.op (.semSignal (n : Thread nD τ) barS 1) k) Q) := by
  subst hd hn
  iintro #HR Hl Ht ⟨%W, HO⟩ Hk
  iapply (Rounds.wp_signal 𝒱₀ ER (Rd m) (c : Thread nD τ) none (dst := (tgt (!d) c : Thread nD τ)) (κ := K (tgt (!d) c, none)) (sem := barS)
      (r := 0) (d := d) (by rw [duties_at m (tgt (!d) c) none]; exact Finset.mem_univ _) (amount_at m (tgt (!d) c) none d) () O hO) $$ [HO Ht Hl]
  · isplitr; · iapply (inv_at m K (tgt (!d) c, none)); iexact HR
    isplitl [HO]; · iexact HO
    isplitl [Ht]; · iexact Ht
    isplitl [Hl]
    · rw [payload_at m (tgt (!d) c) none]
      iapply (lands_pay m c d); iexact Hl
    · iapply (reached_at m K (tgt (!d) c, none)); iexact HR
  iintro HO
  iapply Hk
  iexists W; iexact HO

/-- The wait for both neighbours: their landing slots are this device's to send into. -/
theorem barrier_step {k : PUnit → Prog (TpuEff nD τ sig (Elt F) Λ₀ .tc) α} :
    recs m K ⊢ iprop(levAts L lv -∗ cred (tallyAt (barCell c) () 2) -∗ atPos ER (barCell c) 0 ∅ 0 -∗ OW c order
      -∗ (iprop(OW c order ∗ ((bigSep Finset.univ fun hs : Fin 3 × Fin 2 => any (F := F) (tgt false c) (rcvM (false, hs))) ∗ bigSep Finset.univ fun hs : Fin 3 × Fin 2 => any (F := F) (tgt true c) (rcvM (true, hs))) ∗ semVal (barCell c) 0) -∗ WP c (k ⟨⟩) Q)
      -∗ WP c (.op (.semWait barS 2) k) Q) := by
  unfold OW
  iintro #HR #Hlev Hc Hat ⟨%W, HO⟩ Hk
  iapply (Rounds.wp_wait_rest_token 𝒱₀ ER (Rd m) (c : Thread nD τ) none (κ := K (c, none)) (sm := .reg barS) (k' := 2)
      (wpE_semWait_eq 𝒱₀ (c : Thread nD τ) none Set.univ) (Set.mem_univ _) () (O := Ol c order) (W := W) (R := 0) (m := 0) (T := ∅)
      (by rw [Nat.zero_add]; exact (expect_bar m c).symm)) $$ [Hc HO Hat]
  · isplitr; · iapply (inv_at m K (c, none)); iexact HR
    isplitl [Hc]; · iexact Hc
    isplitl [HO]; · iexact HO
    isplitr; · iapply (mayWait_of c none order (fun σ _ => by show 1 < 2 + σ.2.1.val; omega)); iexact Hlev
    iexact Hat
  iintro ⟨HO, Hat, -, Hpay⟩
  ihave Hp := (Entails.of_eq (rest_bar m c)) $$ Hpay
  unfold barPay
  imod (Rounds.cell_close ER (Rd m) (g := barCell c) (Set.mem_univ (K (c, none))) (fun h => h) (R := 0 + 1) (duties_later m (barCell c))) $$ [Hat] with Hz
  · isplitr; · iapply (inv_at m K (c, none)); iexact HR
    iexact Hat
  iapply Hk
  isplitl [HO]; · iexists (insert (.reg barS, ()) W); iexact HO
  isplitl [Hp] <;> iassumption

end Bar

theorem kitDone_intro (c : Dev nD) (σ : Slot) {Y : S512x512.Idx → Elt F (ety σ.2.1)} :
    (any c (sndM σ) : sProp 𝕄) ⊢ iprop(owns (c : Thread nD τ) (rcvM σ) fullShare Y
      -∗ semVal (sendCell c σ) 0 -∗ semVal (recvCell c σ) 0 -∗ kitDone c σ) := by
  iintro HE HV HY HZ
  unfold kitDone
  isplitl [HE]; · iexact HE
  isplitl [HV]; · (unfold any; iexists Y; iexact HV)
  isplitl [HY] <;> iassumption

/-! ## The run -/

theorem over_slots (Φ : Slot → sProp 𝕄) : bigSep Finset.univ Φ = iprop(
    Φ (false, 0, 0) ∗ Φ (false, 0, 1) ∗ Φ (true, 0, 0) ∗ Φ (true, 0, 1) ∗ Φ (false, 1, 0) ∗ Φ (true, 1, 0) ∗ Φ (false, 1, 1) ∗ Φ (true, 1, 1)
      ∗ Φ (false, 2, 0) ∗ Φ (true, 2, 0) ∗ Φ (false, 2, 1) ∗ Φ (true, 2, 1)) := by
  rw [bigSep_univ_eq_bigSepL order (by decide) (by decide)]
  simp only [order, bigSepL_cons_cons, bigSepL_singleton]; rfl
theorem over_tiles (Φ : Tile → sProp 𝕄) : bigSep Finset.univ Φ = iprop(
    Φ (false, 0) ∗ Φ (true, 0) ∗ Φ (false, 1) ∗ Φ (true, 1)) := by
  rw [bigSep_univ_eq_bigSepL [(false, 0), (true, 0), (false, 1), (true, 1)] (by decide) (by decide)]
  simp only [bigSepL_cons_cons, bigSepL_singleton]; rfl
theorem over_hops (Φ : Fin 3 × Fin 2 → sProp 𝕄) : bigSep Finset.univ Φ = iprop(
    Φ (0, 0) ∗ Φ (0, 1) ∗ Φ (1, 0) ∗ Φ (1, 1) ∗ Φ (2, 0) ∗ Φ (2, 1)) := by
  rw [bigSep_univ_eq_bigSepL [(0, 0), (0, 1), (1, 0), (1, 1), (2, 0), (2, 1)] (by decide) (by decide)]
  simp only [bigSepL_cons_cons, bigSepL_singleton]; rfl

set_option maxHeartbeats 4000000 in
/-- The body from its start to its end. -/
theorem sound_body (c : Dev nD) :
    bodyPre m K c ⊢ WP c (cc0_body xM (Memref.isWhole_whole _) wM (Memref.isWhole_whole _) oM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _)
      cc0_scratch9 cc0_scratch10 cc0_scratch11 cc0_scratch12 cc0_scratch13) (fun _ => bodyPost m c) := by
  simp only [cc0_body_eq_skeleton]; unfold cc0_body_skel
  rw [k0_part1_eq_skeleton]; unfold k0_part1_skel
  simp only [semSignalWord, semWaitWord, Prog.lift, Prog.bind_op, Prog.bind_ret, Prog.pure_eq_ret, Prog.bind_assoc, wp_deviceId]
  unfold bodyPre barKit staged
  rw [over_slots, over_tiles]
  iintro ⟨⟨#HR, #Hlev⟩, ⟨Kf00, Kf01, Kt00, Kt01, Kf10, Kt10, Kf11, Kt11, Kf20, Kt20, Kf21, Kt21⟩, ⟨Tf0, Tt0, Tf1, Tt1⟩, Lf, Lt, ⟨Hb1, Hb2, HcB, HatB⟩, HO, Hx, Hw⟩
  simp only [kit, tileKit]
  iapply (signal_step m K c false true rfl (dev1_eq c) (O₁ c) (O₀ c) rfl) $$ HR Lf Hb1 HO; iintro HO
  iapply (signal_step m K c true false rfl (dev2_eq c) (Ol c order) (O₁ c) rfl) $$ HR Lt Hb2 HO; iintro HO
  ihave HO := (show iprop(∃ W : Waits sig Unit, owes (c : Thread nD τ) (Ol c order) W) ⊢ OW (F := F) c order from Entails.refl _) $$ HO
  iapply (barrier_step m K c) $$ HR Hlev HcB HatB HO; iintro ⟨HO, ⟨Lf, Lt⟩, ZB⟩
  ihave Lf := (Entails.of_eq (over_hops fun hs => any (F := F) (tgt false c) (rcvM (false, hs)))) $$ Lf
  ihave Lt := (Entails.of_eq (over_hops fun hs => any (F := F) (tgt true c) (rcvM (true, hs)))) $$ Lt
  icases Lf with ⟨Lf00, Lf01, Lf10, Lf11, Lf20, Lf21⟩
  icases Lt with ⟨Lt00, Lt01, Lt10, Lt11, Lt20, Lt21⟩
  iapply (x_load m c _ _) $$ Hx; iintro Hx
  iapply (w_load m c _ _) $$ Hw; iintro Hw
  icases Kf00 with ⟨S, T, A, Rf00⟩
  iapply (dead8 c (snd8 false) 0) $$ S; iintro S
  iapply (store8 c (snd8 false) 0) $$ S; iintro S
  rw [k0_part2_eq_skeleton]; unfold k0_part2_skel; simp only [Prog.lift, Prog.bind_op, Prog.bind_ret, Prog.pure_eq_ret, Prog.bind_assoc]
  iapply (send_step m K c (false, 0, 0) [(false, 0, 1), (true, 0, 0), (true, 0, 1), (false, 1, 0), (true, 1, 0), (false, 1, 1), (true, 1, 1), (false, 2, 0), (true, 2, 0), (false, 2, 1), (true, 2, 1)] (dev3_eq c)) $$ HR S [] Lf00 T A HO; (ipureintro; rfl); iintro ⟨Df00, HO⟩
  iapply (x_load m c _ _) $$ Hx; iintro Hx
  iapply (w_load m c _ _) $$ Hw; iintro Hw
  icases Kf01 with ⟨S, T, A, Rf01⟩
  iapply (dead8 c (snd8 false) 1) $$ S; iintro S
  iapply (store8 c (snd8 false) 1) $$ S; iintro S
  iapply (send_step m K c (false, 0, 1) [(true, 0, 0), (true, 0, 1), (false, 1, 0), (true, 1, 0), (false, 1, 1), (true, 1, 1), (false, 2, 0), (true, 2, 0), (false, 2, 1), (true, 2, 1)] (dev4_eq c)) $$ HR S [] Lf01 T A HO; (ipureintro; rfl); iintro ⟨Df01, HO⟩
  rw [k0_part3_eq_skeleton]; unfold k0_part3_skel; simp only [Prog.lift, Prog.bind_op, Prog.bind_ret, Prog.pure_eq_ret, Prog.bind_assoc]
  iapply (x_load m c _ _) $$ Hx; iintro Hx
  iapply (w_load m c _ _) $$ Hw; iintro Hw
  icases Kt00 with ⟨S, T, A, Rt00⟩
  iapply (dead8 c (snd8 true) 0) $$ S; iintro S
  iapply (store8 c (snd8 true) 0) $$ S; iintro S
  iapply (send_step m K c (true, 0, 0) [(true, 0, 1), (false, 1, 0), (true, 1, 0), (false, 1, 1), (true, 1, 1), (false, 2, 0), (true, 2, 0), (false, 2, 1), (true, 2, 1)] (dev5_eq c)) $$ HR S [] Lt00 T A HO; (ipureintro; rfl); iintro ⟨Dt00, HO⟩
  iapply (x_load m c _ _) $$ Hx; iintro Hx
  iapply (w_load m c _ _) $$ Hw; iintro Hw
  icases Kt01 with ⟨S, T, A, Rt01⟩
  iapply (dead8 c (snd8 true) 1) $$ S; iintro S
  rw [k0_part4_eq_skeleton]; unfold k0_part4_skel; simp only [Prog.lift, Prog.bind_op, Prog.bind_ret, Prog.pure_eq_ret, Prog.bind_assoc]
  iapply (store8 c (snd8 true) 1) $$ S; iintro S
  iapply (send_step m K c (true, 0, 1) [(false, 1, 0), (true, 1, 0), (false, 1, 1), (true, 1, 1), (false, 2, 0), (true, 2, 0), (false, 2, 1), (true, 2, 1)] (dev6_eq c)) $$ HR S [] Lt01 T A HO; (ipureintro; rfl); iintro ⟨Dt01, HO⟩
  iapply (x_load m c _ _) $$ Hx; iintro Hx
  iapply (w_load2 m c _ _) $$ Hw; iintro Hw
  iapply (x_load m c _ _) $$ Hx; iintro Hx
  rw [k0_part5_eq_skeleton]; unfold k0_part5_skel; simp only [Prog.lift, Prog.bind_op, Prog.bind_ret, Prog.pure_eq_ret, Prog.bind_assoc]
  iapply (w_load2 m c _ _) $$ Hw; iintro Hw
  iapply (x_load m c _ _) $$ Hx; iintro Hx
  iapply (w_load2 m c _ _) $$ Hw; iintro Hw
  iapply (x_load m c _ _) $$ Hx; iintro Hx
  iapply (w_load2 m c _ _) $$ Hw; iintro Hw
  iapply (x_load m c _ _) $$ Hx; iintro Hx
  iapply (w_load2 m c _ _) $$ Hw; iintro Hw
  rw [k0_part6_eq_skeleton]; unfold k0_part6_skel; simp only [Prog.lift, Prog.bind_op, Prog.bind_ret, Prog.pure_eq_ret, Prog.bind_assoc]
  iapply (x_load m c _ _) $$ Hx; iintro Hx
  iapply (w_load2 m c _ _) $$ Hw; iintro Hw
  iapply (land_step m K c (false, 0, 0) [(false, 1, 0), (true, 1, 0), (false, 1, 1), (true, 1, 1), (false, 2, 0), (true, 2, 0), (false, 2, 1), (true, 2, 1)] (by decide) (snd0 m false 0 (tgt true c)) rfl) $$ HR Hlev Rf00 HO; iintro ⟨HO, Vf00, Zf00⟩
  iapply (load8 c (rcv8 false) 0 (snd0 m false 0 (tgt true c))) $$ Vf00; iintro Vf00
  icases Kf10 with ⟨S, T, A, Rf10⟩
  iapply (dead16 c (snd16 false) (1, 0)) $$ S; iintro S
  iapply (store16 c (snd16 false) (1, 0)) $$ S; iintro S
  rw [k0_part7_eq_skeleton]; unfold k0_part7_skel; simp only [Prog.lift, Prog.bind_op, Prog.bind_ret, Prog.pure_eq_ret, Prog.bind_assoc]
  iapply (send_step m K c (false, 1, 0) [(true, 1, 0), (false, 1, 1), (true, 1, 1), (false, 2, 0), (true, 2, 0), (false, 2, 1), (true, 2, 1)] (dev7_eq c)) $$ HR S [] Lf10 T A HO; (ipureintro; rfl); iintro ⟨Df10, HO⟩
  iapply (land_step m K c (true, 0, 0) [(true, 1, 0), (false, 1, 1), (true, 1, 1), (false, 2, 0), (true, 2, 0), (false, 2, 1), (true, 2, 1)] (by decide) (snd0 m true 0 (tgt false c)) rfl) $$ HR Hlev Rt00 HO; iintro ⟨HO, Vt00, Zt00⟩
  iapply (load8 c (rcv8 true) 0 (snd0 m true 0 (tgt false c))) $$ Vt00; iintro Vt00
  icases Kt10 with ⟨S, T, A, Rt10⟩
  iapply (dead16 c (snd16 true) (1, 0)) $$ S; iintro S
  iapply (store16 c (snd16 true) (1, 0)) $$ S; iintro S
  rw [k0_part8_eq_skeleton]; unfold k0_part8_skel; simp only [Prog.lift, Prog.bind_op, Prog.bind_ret, Prog.pure_eq_ret, Prog.bind_assoc]
  iapply (send_step m K c (true, 1, 0) [(false, 1, 1), (true, 1, 1), (false, 2, 0), (true, 2, 0), (false, 2, 1), (true, 2, 1)] (dev8_eq c)) $$ HR S [] Lt10 T A HO; (ipureintro; rfl); iintro ⟨Dt10, HO⟩
  iapply (land_step m K c (false, 0, 1) [(false, 1, 1), (true, 1, 1), (false, 2, 0), (true, 2, 0), (false, 2, 1), (true, 2, 1)] (by decide) (snd0 m false 1 (tgt true c)) rfl) $$ HR Hlev Rf01 HO; iintro ⟨HO, Vf01, Zf01⟩
  iapply (load8 c (rcv8 false) 1 (snd0 m false 1 (tgt true c))) $$ Vf01; iintro Vf01
  icases Kf11 with ⟨S, T, A, Rf11⟩
  iapply (dead16 c (snd16 false) (1, 1)) $$ S; iintro S
  rw [k0_part9_eq_skeleton]; unfold k0_part9_skel; simp only [Prog.lift, Prog.bind_op, Prog.bind_ret, Prog.pure_eq_ret, Prog.bind_assoc]
  iapply (store16 c (snd16 false) (1, 1)) $$ S; iintro S
  iapply (send_step m K c (false, 1, 1) [(true, 1, 1), (false, 2, 0), (true, 2, 0), (false, 2, 1), (true, 2, 1)] (dev9_eq c)) $$ HR S [] Lf11 T A HO; (ipureintro; rfl); iintro ⟨Df11, HO⟩
  iapply (land_step m K c (true, 0, 1) [(true, 1, 1), (false, 2, 0), (true, 2, 0), (false, 2, 1), (true, 2, 1)] (by decide) (snd0 m true 1 (tgt false c)) rfl) $$ HR Hlev Rt01 HO; iintro ⟨HO, Vt01, Zt01⟩
  iapply (load8 c (rcv8 true) 1 (snd0 m true 1 (tgt false c))) $$ Vt01; iintro Vt01
  rw [k0_part10_eq_skeleton]; unfold k0_part10_skel; simp only [Prog.lift, Prog.bind_op, Prog.bind_ret, Prog.pure_eq_ret, Prog.bind_assoc]
  icases Kt11 with ⟨S, T, A, Rt11⟩
  iapply (dead16 c (snd16 true) (1, 1)) $$ S; iintro S
  iapply (store16 c (snd16 true) (1, 1)) $$ S; iintro S
  iapply (send_step m K c (true, 1, 1) [(false, 2, 0), (true, 2, 0), (false, 2, 1), (true, 2, 1)] (dev10_eq c)) $$ HR S [] Lt11 T A HO; (ipureintro; rfl); iintro ⟨Dt11, HO⟩
  iapply (land_step m K c (false, 1, 0) [(false, 2, 0), (true, 2, 0), (false, 2, 1), (true, 2, 1)] (by decide) (snd1 m false 0 (tgt true c)) rfl) $$ HR Hlev Rf10 HO; iintro ⟨HO, Vf10, Zf10⟩
  iapply (load16 c (rcv16 false) (1, 0) (snd1 m false 0 (tgt true c))) $$ Vf10; iintro Vf10
  rw [k0_part11_eq_skeleton]; unfold k0_part11_skel; simp only [Prog.lift, Prog.bind_op, Prog.bind_ret, Prog.pure_eq_ret, Prog.bind_assoc]
  icases Kf20 with ⟨S, T, A, Rf20⟩
  iapply (dead16 c (snd16 false) (2, 0)) $$ S; iintro S
  iapply (store16 c (snd16 false) (2, 0)) $$ S; iintro S
  iapply (send_step m K c (false, 2, 0) [(true, 2, 0), (false, 2, 1), (true, 2, 1)] (dev11_eq c)) $$ HR S [] Lf20 T A HO; (ipureintro; rfl); iintro ⟨Df20, HO⟩
  iapply (land_step m K c (true, 1, 0) [(true, 2, 0), (false, 2, 1), (true, 2, 1)] (by decide) (snd1 m true 0 (tgt false c)) rfl) $$ HR Hlev Rt10 HO; iintro ⟨HO, Vt10, Zt10⟩
  rw [k0_part12_eq_skeleton]; unfold k0_part12_skel; simp only [Prog.lift, Prog.bind_op, Prog.bind_ret, Prog.pure_eq_ret, Prog.bind_assoc]
  iapply (load16 c (rcv16 true) (1, 0) (snd1 m true 0 (tgt false c))) $$ Vt10; iintro Vt10
  icases Kt20 with ⟨S, T, A, Rt20⟩
  iapply (dead16 c (snd16 true) (2, 0)) $$ S; iintro S
  iapply (store16 c (snd16 true) (2, 0)) $$ S; iintro S
  iapply (send_step m K c (true, 2, 0) [(false, 2, 1), (true, 2, 1)] (dev12_eq c)) $$ HR S [] Lt20 T A HO; (ipureintro; rfl); iintro ⟨Dt20, HO⟩
  rw [k0_part13_eq_skeleton]; unfold k0_part13_skel; simp only [Prog.lift, Prog.bind_op, Prog.bind_ret, Prog.pure_eq_ret, Prog.bind_assoc]
  iapply (land_step m K c (false, 1, 1) [(false, 2, 1), (true, 2, 1)] (by decide) (snd1 m false 1 (tgt true c)) rfl) $$ HR Hlev Rf11 HO; iintro ⟨HO, Vf11, Zf11⟩
  iapply (load16 c (rcv16 false) (1, 1) (snd1 m false 1 (tgt true c))) $$ Vf11; iintro Vf11
  icases Kf21 with ⟨S, T, A, Rf21⟩
  iapply (dead16 c (snd16 false) (2, 1)) $$ S; iintro S
  iapply (store16 c (snd16 false) (2, 1)) $$ S; iintro S
  iapply (send_step m K c (false, 2, 1) [(true, 2, 1)] (dev13_eq c)) $$ HR S [] Lf21 T A HO; (ipureintro; rfl); iintro ⟨Df21, HO⟩
  rw [k0_part14_eq_skeleton]; unfold k0_part14_skel; simp only [Prog.lift, Prog.bind_op, Prog.bind_ret, Prog.pure_eq_ret, Prog.bind_assoc]
  iapply (land_step m K c (true, 1, 1) [(true, 2, 1)] (by decide) (snd1 m true 1 (tgt false c)) rfl) $$ HR Hlev Rt11 HO; iintro ⟨HO, Vt11, Zt11⟩
  iapply (load16 c (rcv16 true) (1, 1) (snd1 m true 1 (tgt false c))) $$ Vt11; iintro Vt11
  icases Kt21 with ⟨S, T, A, Rt21⟩
  iapply (dead16 c (snd16 true) (2, 1)) $$ S; iintro S
  iapply (store16 c (snd16 true) (2, 1)) $$ S; iintro S
  iapply (send_step m K c (true, 2, 1) [] (dev14_eq c)) $$ HR S [] Lt21 T A HO; (ipureintro; rfl); iintro ⟨Dt21, HO⟩
  rw [k0_part15_eq_skeleton]; unfold k0_part15_skel; simp only [Prog.lift, Prog.bind_op, Prog.bind_ret, Prog.pure_eq_ret, Prog.bind_assoc]
  iapply (land_step m K c (false, 2, 0) [] (by decide) (snd2 m false 0 (tgt true c)) rfl) $$ HR Hlev Rf20 HO; iintro ⟨HO, Vf20, Zf20⟩
  iapply (load16 c (rcv16 false) (2, 0) (snd2 m false 0 (tgt true c))) $$ Vf20; iintro Vf20
  icases Tf0 with ⟨S, Q, T, A⟩
  iapply (deadg c gM (0, 0)) $$ S; iintro S
  iapply (storeg c gM (0, 0)) $$ S; iintro S
  rw [k0_part16_eq_skeleton]; unfold k0_part16_skel; simp only [Prog.lift, Prog.bind_op, Prog.bind_ret, Prog.pure_eq_ret, Prog.bind_assoc]
  iapply (out_step m K c (false, 0)) $$ HR S [] Q T A; (ipureintro; rfl); iintro Uf0
  iapply (land_step m K c (true, 2, 0) [] (by decide) (snd2 m true 0 (tgt false c)) rfl) $$ HR Hlev Rt20 HO; iintro ⟨HO, Vt20, Zt20⟩
  iapply (load16 c (rcv16 true) (2, 0) (snd2 m true 0 (tgt false c))) $$ Vt20; iintro Vt20
  icases Tt0 with ⟨S, Q, T, A⟩
  iapply (deadg c gM (1, 0)) $$ S; iintro S
  rw [k0_part17_eq_skeleton]; unfold k0_part17_skel; simp only [Prog.lift, Prog.bind_op, Prog.bind_ret, Prog.pure_eq_ret, Prog.bind_assoc]
  iapply (storeg c gM (1, 0)) $$ S; iintro S
  iapply (out_step m K c (true, 0)) $$ HR S [] Q T A; (ipureintro; rfl); iintro Ut0
  iapply (land_step m K c (false, 2, 1) [] (by decide) (snd2 m false 1 (tgt true c)) rfl) $$ HR Hlev Rf21 HO; iintro ⟨HO, Vf21, Zf21⟩
  iapply (load16 c (rcv16 false) (2, 1) (snd2 m false 1 (tgt true c))) $$ Vf21; iintro Vf21
  rw [k0_part18_eq_skeleton]; unfold k0_part18_skel; simp only [Prog.lift, Prog.bind_op, Prog.bind_ret, Prog.pure_eq_ret, Prog.bind_assoc]
  icases Tf1 with ⟨S, Q, T, A⟩
  iapply (deadg c gM (0, 1)) $$ S; iintro S
  iapply (storeg c gM (0, 1)) $$ S; iintro S
  iapply (out_step m K c (false, 1)) $$ HR S [] Q T A; (ipureintro; rfl); iintro Uf1
  iapply (land_step m K c (true, 2, 1) [] (by decide) (snd2 m true 1 (tgt false c)) rfl) $$ HR Hlev Rt21 HO; iintro ⟨HO, Vt21, Zt21⟩
  iapply (load16 c (rcv16 true) (2, 1) (snd2 m true 1 (tgt false c))) $$ Vt21; iintro Vt21
  rw [k0_part19_eq_skeleton]; unfold k0_part19_skel; simp only [Prog.lift, Prog.bind_op, Prog.bind_ret, Prog.pure_eq_ret, Prog.bind_assoc]
  icases Tt1 with ⟨S, Q, T, A⟩
  iapply (deadg c gM (1, 1)) $$ S; iintro S
  iapply (storeg c gM (1, 1)) $$ S; iintro S
  iapply (out_step m K c (true, 1)) $$ HR S [] Q T A; (ipureintro; rfl); iintro Ut1
  iapply (done_step m K c (false, 0)) $$ HR Hlev Uf0 HO; iintro ⟨HO, Gf0, Xf0⟩
  rw [k0_part20_eq_skeleton]; unfold k0_part20_skel; simp only [Prog.lift, Prog.bind_op, Prog.bind_ret, Prog.pure_eq_ret, Prog.bind_assoc]
  iapply (done_step m K c (false, 1)) $$ HR Hlev Uf1 HO; iintro ⟨HO, Gf1, Xf1⟩
  iapply (done_step m K c (true, 0)) $$ HR Hlev Ut0 HO; iintro ⟨HO, Gt0, Xt0⟩
  iapply (done_step m K c (true, 1)) $$ HR Hlev Ut1 HO; iintro ⟨HO, Gt1, Xt1⟩
  iapply (leave_step m K c (false, 0, 0)) $$ HR Hlev Df00 HO; iintro ⟨HO, E, Y⟩
  ihave Nf00 := (kitDone_intro c (false, 0, 0)) $$ E Vf00 Y Zf00
  rw [k0_part21_eq_skeleton]; unfold k0_part21_skel; simp only [Prog.lift, Prog.bind_op, Prog.bind_ret, Prog.pure_eq_ret, Prog.bind_assoc]
  iapply (leave_step m K c (true, 0, 0)) $$ HR Hlev Dt00 HO; iintro ⟨HO, E, Y⟩
  ihave Nt00 := (kitDone_intro c (true, 0, 0)) $$ E Vt00 Y Zt00
  iapply (leave_step m K c (false, 0, 1)) $$ HR Hlev Df01 HO; iintro ⟨HO, E, Y⟩
  ihave Nf01 := (kitDone_intro c (false, 0, 1)) $$ E Vf01 Y Zf01
  iapply (leave_step m K c (true, 0, 1)) $$ HR Hlev Dt01 HO; iintro ⟨HO, E, Y⟩
  ihave Nt01 := (kitDone_intro c (true, 0, 1)) $$ E Vt01 Y Zt01
  rw [k0_part22_eq_skeleton]; unfold k0_part22_skel; simp only [Prog.lift, Prog.bind_op, Prog.bind_ret, Prog.pure_eq_ret, Prog.bind_assoc]
  iapply (leave_step m K c (false, 1, 0)) $$ HR Hlev Df10 HO; iintro ⟨HO, E, Y⟩
  ihave Nf10 := (kitDone_intro c (false, 1, 0)) $$ E Vf10 Y Zf10
  iapply (leave_step m K c (true, 1, 0)) $$ HR Hlev Dt10 HO; iintro ⟨HO, E, Y⟩
  ihave Nt10 := (kitDone_intro c (true, 1, 0)) $$ E Vt10 Y Zt10
  iapply (leave_step m K c (false, 1, 1)) $$ HR Hlev Df11 HO; iintro ⟨HO, E, Y⟩
  ihave Nf11 := (kitDone_intro c (false, 1, 1)) $$ E Vf11 Y Zf11
  rw [k0_part23_eq_skeleton]; unfold k0_part23_skel; simp only [Prog.lift, Prog.bind_op, Prog.bind_ret, Prog.pure_eq_ret, Prog.bind_assoc]
  iapply (leave_step m K c (true, 1, 1)) $$ HR Hlev Dt11 HO; iintro ⟨HO, E, Y⟩
  ihave Nt11 := (kitDone_intro c (true, 1, 1)) $$ E Vt11 Y Zt11
  iapply (leave_step m K c (false, 2, 0)) $$ HR Hlev Df20 HO; iintro ⟨HO, E, Y⟩
  ihave Nf20 := (kitDone_intro c (false, 2, 0)) $$ E Vf20 Y Zf20
  iapply (leave_step m K c (true, 2, 0)) $$ HR Hlev Dt20 HO; iintro ⟨HO, E, Y⟩
  ihave Nt20 := (kitDone_intro c (true, 2, 0)) $$ E Vt20 Y Zt20
  iapply (leave_step m K c (false, 2, 1)) $$ HR Hlev Df21 HO; iintro ⟨HO, E, Y⟩
  ihave Nf21 := (kitDone_intro c (false, 2, 1)) $$ E Vf21 Y Zf21
  iapply (leave_step m K c (true, 2, 1)) $$ HR Hlev Dt21 HO; iintro ⟨HO, E, Y⟩
  ihave Nt21 := (kitDone_intro c (true, 2, 1)) $$ E Vt21 Y Zt21
  unfold WP; rw [wp_ret]; imodintro
  unfold bodyPost tileDone staged; rw [over_slots, over_tiles]
  isplitl [Nf00 Nf01 Nt00 Nt01 Nf10 Nt10 Nf11 Nt11 Nf20 Nt20 Nf21 Nt21]
  · isplitl [Nf00]; · iexact Nf00
    isplitl [Nf01]; · iexact Nf01
    isplitl [Nt00]; · iexact Nt00
    isplitl [Nt01]; · iexact Nt01
    isplitl [Nf10]; · iexact Nf10
    isplitl [Nt10]; · iexact Nt10
    isplitl [Nf11]; · iexact Nf11
    isplitl [Nt11]; · iexact Nt11
    isplitl [Nf20]; · iexact Nf20
    isplitl [Nt20]; · iexact Nt20
    isplitl [Nf21]; · iexact Nf21
    iexact Nt21
  isplitl [Gf0 Xf0 Gt0 Xt0 Gf1 Xf1 Gt1 Xt1]
  · isplitl [Gf0 Xf0]; · (isplitl [Gf0] <;> iassumption)
    isplitl [Gt0 Xt0]; · (isplitl [Gt0] <;> iassumption)
    isplitl [Gf1 Xf1]; · (isplitl [Gf1] <;> iassumption)
    isplitl [Gt1] <;> iassumption
  isplitl [ZB]; · iexact ZB
  isplitl [HO]; · iexact HO
  isplitl [Hx] <;> iassumption

end Cert.Gemm

end
-- ==== Proof.Split.lean ====
/- The buffers cut into their slots, and put together again. -/
module

public import proofs.«01_k».proof.Proof.Body

@[expose] public section

noncomputable section

namespace Cert.Gemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Any memref, cut into the rectangles of a family -/

section Cut
variable (c : Dev nD) {sp : Space} {s s' : Shape} {e : EltTy} (M : Memref sig .tc sp s e)

theorem any_intro {X : s.Idx → Elt F e} : (owns (c : Thread nD τ) M fullShare X : sProp 𝕄) ⊢ any c M := by
  unfold any; iintro H; iexists X; iexact H

/-- A squeezed memref is owned exactly when the memref is. -/
theorem any_squeeze (hq : s.Squeezes s') : (any c (M.squeeze s' hq) : sProp 𝕄) ⊢ any c M := by
  unfold any owns
  iintro ⟨%X, %f, %hf, H⟩
  iexists (M.view.read (Elt F) f)
  iexists f
  isplitr; · (ipureintro; rfl)
  rw [Memref.set_view_squeeze]; iexact H
theorem squeeze_any (hq : s.Squeezes s') : (any c M : sProp 𝕄) ⊢ any c (M.squeeze s' hq) := by
  unfold any owns
  iintro ⟨%X, %f, %hf, H⟩
  iexists ((M.squeeze s' hq).view.read (Elt F) f)
  iexists f
  isplitr; · (ipureintro; rfl)
  rw [Memref.set_view_squeeze]; iexact H

variable {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)

include hd hcov in
/-- A memref at some contents is each rectangle of it at some, -/
theorem cut : (any c M : sProp 𝕄) ⊢ bigSep Finset.univ fun t => any c (M.slice (r t) (hr t)) := by
  refine (show (any c M : sProp 𝕄) ⊢ iprop(∃ X, owns (c : Thread nD τ) M fullShare X) from Entails.refl _).trans ?_
  iintro ⟨%X, H⟩
  iapply (show (owns (c : Thread nD τ) M fullShare X : sProp 𝕄) ⊢ bigSep Finset.univ fun t => any c (M.slice (r t) (hr t)) from
    (owns_rects (c : Thread nD τ) M fullShare r hr hd hcov X).trans (bigSep_mono fun t _ => any_intro c _))
  iexact H

include hd hcov in
/-- and back. -/
theorem paste : (bigSep Finset.univ fun t => any c (M.slice (r t) (hr t)) : sProp 𝕄) ⊢ any c M := by
  unfold any
  refine (BI.bigSep_exists_pi Finset.univ (fun t X => owns (c : Thread nD τ) (M.slice (r t) (hr t)) fullShare X)).trans ?_
  iintro ⟨%Y, H⟩
  iexists (Rect.glue r hcov Y)
  iapply (owns_of_rects (c : Thread nD τ) M fullShare r hr hd hcov (Rect.glue r hcov Y))
  have hg (t : T) : (fun j => Rect.glue r hcov Y ((r t).emb j)) = Y t := funext fun y => Rect.glue_emb r hcov hd Y t y
  simp only [hg]
  iexact H

end Cut

/-- A whole buffer at some contents. -/
theorem any_whole (c : Dev nD) (b : Ref sig .tc) :
    (any c (Memref.whole b) : sProp 𝕄) = iprop(∃ f : Buf (Elt F) ((c : Thread nD τ).loc b), ((c : Thread nD τ).loc b) ↦{fullShare} f) := by
  unfold any; simp only [owns_whole]

/-! ## The families -/

theorem rect3_apart (t t' : Fin 2) (h : t ≠ t') : Disjoint (rect3 t).set (rect3 t').set :=
  Rect.unit_disjoint 0 (by revert t t'; decide)
theorem rect3_cover : (Finset.univ : Finset (Fin 2)).biUnion (fun t => (rect3 t).set) = Finset.univ := by
  ext i
  simp only [Finset.mem_biUnion, Finset.mem_univ, true_and, iff_true]
  refine ⟨i 0, Rect.mem_set_unit.mpr fun a => ?_⟩
  have h1 : (i 1).val < 512 := (i 1).isLt
  have h2 : (i 2).val < 512 := (i 2).isLt
  fin_cases a
  · exact ⟨le_refl _, Nat.lt_succ_self _⟩
  · exact ⟨Nat.zero_le _, by simpa using h1⟩
  · exact ⟨Nat.zero_le _, by simpa using h2⟩

theorem rect4_apart (t t' : Fin 3 × Fin 2) (h : t ≠ t') : Disjoint (rect4 t).set (rect4 t').set := by
  by_cases h0 : t.1 = t'.1
  · have h1 : t.2 ≠ t'.2 := fun h1 => h (Prod.ext h0 h1)
    exact Rect.unit_disjoint 1 (show t.2.val + 1 ≤ t'.2.val ∨ t'.2.val + 1 ≤ t.2.val by have := fun e => h1 (Fin.ext e); omega)
  · exact Rect.unit_disjoint 0 (show t.1.val + 1 ≤ t'.1.val ∨ t'.1.val + 1 ≤ t.1.val by have := fun e => h0 (Fin.ext e); omega)
theorem rect4_cover : (Finset.univ : Finset (Fin 3 × Fin 2)).biUnion (fun t => (rect4 t).set) = Finset.univ := by
  ext i
  simp only [Finset.mem_biUnion, Finset.mem_univ, true_and, iff_true]
  refine ⟨(i 0, i 1), Rect.mem_set_unit.mpr fun a => ?_⟩
  have h2 : (i 2).val < 512 := (i 2).isLt
  have h3 : (i 3).val < 512 := (i 3).isLt
  fin_cases a
  · exact ⟨le_refl _, Nat.lt_succ_self _⟩
  · exact ⟨le_refl _, Nat.lt_succ_self _⟩
  · exact ⟨Nat.zero_le _, by simpa using h2⟩
  · exact ⟨Nat.zero_le _, by simpa using h3⟩

/-- A tile's number among the slots of the activation's buffer. -/
def tileEq : Tile ≃ Fin 2 × Fin 2 where
  toFun t := (dn t.1, t.2)
  invFun p := (p.1 = 1, p.2)
  left_inv := by decide
  right_inv := by decide

theorem rect4t_apart (t t' : Tile) (h : t ≠ t') : Disjoint (rect4' (dn t.1, t.2)).set (rect4' (dn t'.1, t'.2)).set := by
  by_cases h0 : dn t.1 = dn t'.1
  · have h1 : t.2 ≠ t'.2 := fun h1 => h (tileEq.injective (Prod.ext h0 h1))
    exact Rect.unit_disjoint 1 (show t.2.val + 1 ≤ t'.2.val ∨ t'.2.val + 1 ≤ t.2.val by have := fun e => h1 (Fin.ext e); omega)
  · exact Rect.unit_disjoint 0 (show (dn t.1).val + 1 ≤ (dn t'.1).val ∨ (dn t'.1).val + 1 ≤ (dn t.1).val by have := fun e => h0 (Fin.ext e); omega)
theorem rect4t_cover : (Finset.univ : Finset Tile).biUnion (fun t => (rect4' (dn t.1, t.2)).set) = Finset.univ := by
  ext i
  simp only [Finset.mem_biUnion, Finset.mem_univ, true_and, iff_true]
  refine ⟨tileEq.symm (i 0, i 1), Rect.mem_set_unit.mpr fun a => ?_⟩
  have hd : dn (tileEq.symm (i 0, i 1)).1 = i 0 := congrArg Prod.fst (tileEq.apply_symm_apply (i 0, i 1))
  have h2 : (i 2).val < 512 := (i 2).isLt
  have h3 : (i 3).val < 512 := (i 3).isLt
  rw [hd]
  fin_cases a
  · exact ⟨le_refl _, Nat.lt_succ_self _⟩
  · exact ⟨le_refl _, Nat.lt_succ_self _⟩
  · exact ⟨Nat.zero_le _, by simpa using h2⟩
  · exact ⟨Nat.zero_le _, by simpa using h3⟩

/-- The tile of the result a column lies in. -/
def tileOf (n : ℕ) : Tile := if n < 512 then (false, 0) else if n < 1024 then (false, 1) else if n < 1536 then (true, 0) else (true, 1)
theorem tileOf_col (t : Tile) (k : ℕ) (hk : k < 512) : tileOf (col t + k) = t := by
  revert t
  simp only [Prod.forall, Bool.forall_bool, Fin.forall_fin_two, tileOf, col]
  refine ⟨⟨?_, ?_⟩, ⟨?_, ?_⟩⟩ <;> split_ifs <;> first | rfl | omega
theorem col_tileOf (n : ℕ) (hn : n < 2048) : col (tileOf n) ≤ n ∧ n < col (tileOf n) + 512 := by
  unfold tileOf
  split_ifs <;> simp only [col] <;> omega

theorem col_mod (t : Tile) : col t % 512 = 0 := by revert t; decide

theorem rectO_apart (t t' : Tile) (h : t ≠ t') : Disjoint (rectO t).set (rectO t').set :=
  Rect.unit_disjoint 1 (show col t + 512 ≤ col t' ∨ col t' + 512 ≤ col t by revert t t'; decide)
theorem rectO_cover : (Finset.univ : Finset Tile).biUnion (fun t => (rectO t).set) = Finset.univ := by
  ext i
  simp only [Finset.mem_biUnion, Finset.mem_univ, true_and, iff_true]
  refine ⟨tileOf (i 1).val, Rect.mem_set_unit.mpr fun a => ?_⟩
  have h0 : (i 0).val < 512 := (i 0).isLt
  fin_cases a
  · exact ⟨Nat.zero_le _, by simpa using h0⟩
  · exact col_tileOf _ (i 1).isLt

/-! ## The buffers -/

theorem over_two (Φ : Fin 2 → sProp 𝕄) : bigSep Finset.univ Φ = iprop(Φ 0 ∗ Φ 1) := by
  rw [bigSep_univ_eq_bigSepL [0, 1] (by decide) (by decide)]
  simp only [bigSepL_cons_cons, bigSepL_singleton]; rfl

section Bufs
variable (c : Dev nD) {e : EltTy}

theorem cut3 (M : Memref sig .tc .vmem S2x512x512 e) : (any c M : sProp 𝕄) ⊢ bigSep Finset.univ fun s => any c (slot3 M s) :=
  (cut c M rect3 (fun _ _ => rfl) rect3_apart rect3_cover).trans (bigSep_mono fun t _ => squeeze_any c _ _)
theorem paste3 (M : Memref sig .tc .vmem S2x512x512 e) : (bigSep Finset.univ fun s => any c (slot3 M s) : sProp 𝕄) ⊢ any c M :=
  (bigSep_mono fun t _ => any_squeeze c _ _).trans (paste c M rect3 (fun _ _ => rfl) rect3_apart rect3_cover)
theorem cut4 (M : Memref sig .tc .vmem S3x2x512x512 e) : (any c M : sProp 𝕄) ⊢ bigSep Finset.univ fun s => any c (slot4 M s) :=
  (cut c M rect4 (fun _ _ => rfl) rect4_apart rect4_cover).trans (bigSep_mono fun t _ => squeeze_any c _ _)
theorem paste4 (M : Memref sig .tc .vmem S3x2x512x512 e) : (bigSep Finset.univ fun s => any c (slot4 M s) : sProp 𝕄) ⊢ any c M :=
  (bigSep_mono fun t _ => any_squeeze c _ _).trans (paste c M rect4 (fun _ _ => rfl) rect4_apart rect4_cover)
theorem cutg : (any c gM : sProp 𝕄) ⊢ bigSep Finset.univ fun t => any c (gelM t) :=
  (cut c gM (fun t : Tile => rect4' (dn t.1, t.2)) (fun _ _ => rfl) rect4t_apart rect4t_cover).trans (bigSep_mono fun t _ => squeeze_any c _ squeezes_S1x1x512x512_S512x512)
theorem pasteg : (bigSep Finset.univ fun t => any c (gelM t) : sProp 𝕄) ⊢ any c gM :=
  (bigSep_mono fun t _ => any_squeeze c _ squeezes_S1x1x512x512_S512x512).trans (paste c gM (fun t : Tile => rect4' (dn t.1, t.2)) (fun _ _ => rfl) rect4t_apart rect4t_cover)
theorem cutO : (any c oM : sProp 𝕄) ⊢ bigSep Finset.univ fun t => any c (outM t) :=
  cut c oM rectO (fun _ _ => rfl) rectO_apart rectO_cover

/-- The slots of a direction's two buffers, and the two slots of the second that no transfer uses. -/
theorem cut_hops (A : Memref sig .tc .vmem S2x512x512 .fp8e4m3) (B : Memref sig .tc .vmem S3x2x512x512 .bf16) :
    iprop(any c A ∗ any c B) ⊢ (iprop((bigSep Finset.univ fun hs : Fin 3 × Fin 2 => any (F := F) c (hopM A B hs.2 hs.1))
      ∗ any c (slot4 B (0, 0)) ∗ any c (slot4 B (0, 1))) : sProp 𝕄) := by
  iintro ⟨HA, HB⟩
  ihave HA := (cut3 c A) $$ HA
  ihave HB := (cut4 c B) $$ HB
  ihave HA := (Entails.of_eq (over_two fun s => any (F := F) c (slot3 A s))) $$ HA
  ihave HB := (Entails.of_eq (over_hops fun s => any (F := F) c (slot4 B s))) $$ HB
  icases HA with ⟨A0, A1⟩
  icases HB with ⟨B00, B01, B10, B11, B20, B21⟩
  rw [over_hops]
  isplitl [A0 A1 B10 B11 B20 B21]
  · isplitl [A0]; · iexact A0
    isplitl [A1]; · iexact A1
    isplitl [B10]; · iexact B10
    isplitl [B11]; · iexact B11
    isplitl [B20]; · iexact B20
    iexact B21
  · isplitl [B00] <;> iassumption
theorem paste_hops (A : Memref sig .tc .vmem S2x512x512 .fp8e4m3) (B : Memref sig .tc .vmem S3x2x512x512 .bf16) :
    iprop((bigSep Finset.univ fun hs : Fin 3 × Fin 2 => any (F := F) c (hopM A B hs.2 hs.1))
      ∗ any c (slot4 B (0, 0)) ∗ any c (slot4 B (0, 1))) ⊢ (iprop(any c A ∗ any c B) : sProp 𝕄) := by
  rw [over_hops]
  iintro ⟨⟨A0, A1, B10, B11, B20, B21⟩, B00, B01⟩
  isplitl [A0 A1]
  · iapply (paste3 c A)
    iapply (Entails.of_eq (over_two fun s => any (F := F) c (slot3 A s)).symm)
    isplitl [A0]; · iexact A0
    iexact A1
  · iapply (paste4 c B)
    iapply (Entails.of_eq (over_hops fun s => any (F := F) c (slot4 B s)).symm)
    isplitl [B00]; · iexact B00
    isplitl [B01]; · iexact B01
    isplitl [B10]; · iexact B10
    isplitl [B11]; · iexact B11
    isplitl [B20]; · iexact B20
    iexact B21

end Bufs

/-! ## The result -/

/-- A place in the result, within its tile. -/
def inTile (i : S512x2048.Idx) : S512x512.Idx := fun a => match a with
  | 0 => ⟨(i 0).val, (i 0).isLt⟩
  | 1 => ⟨(i 1).val % 512, Nat.mod_lt _ (by decide)⟩
/-- Device `c`'s block of the result, its tiles side by side. -/
def outAt (c : Dev nD) : S512x2048.Idx → Elt F .f32 := fun i => outC m (tileOf (i 1).val) c (inTile i)

theorem outAt_tile (c : Dev nD) (t : Tile) : (fun j => outAt m c ((rectO t).emb j)) = outC m t c := by
  funext j
  have h0 : (((rectO t).emb j) 0).val = (j 0).val := (Nat.zero_add _).trans (Nat.one_mul _)
  have h1 : (((rectO t).emb j) 1).val = col t + (j 1).val := by
    show col t + 1 * (j 1).val = _; rw [Nat.one_mul]
  have hj : (j 1).val < 512 := (j 1).isLt
  have ht : tileOf (((rectO t).emb j) 1).val = t := by rw [h1]; exact tileOf_col t _ hj
  have hl : inTile ((rectO t).emb j) = j := by
    funext a
    match a with
    | 0 => exact Fin.ext h0
    | 1 =>
      refine Fin.ext ?_
      show (((rectO t).emb j) 1).val % 512 = (j 1).val
      rw [h1]
      have := col_mod t
      omega
  unfold outAt
  rw [ht, hl]

theorem pasteO (c : Dev nD) : (bigSep Finset.univ fun t => owns (c : Thread nD τ) (outM t) fullShare (outC m t c) : sProp 𝕄)
    ⊢ (((c : Thread nD τ).loc main_v1) ↦{fullShare} outAt m c) := by
  rw [← owns_whole]
  refine BI.Entails.trans ?_ (owns_of_rects (c : Thread nD τ) oM fullShare rectO (fun _ _ => rfl) rectO_apart rectO_cover (outAt m c))
  simp only [outAt_tile]; exact BI.Entails.refl _

end Cert.Gemm

end
-- ==== Proof.Value.lean ====
/- The result at the ideal values: each tile is the activation of the four devices' products summed. -/
module

public import proofs.«01_k».proof.Proof.Split
public import Idealize.ShloMosaic.Lib.MatmulPlain
public import Idealize.ShloMosaic.Lib.Pipeline.Value
public import Idealize.ShloMosaic.PureOps.Ideal.Laws

@[expose] public section

noncomputable section

namespace Cert.Gemm

open Cert.KernelIdeal Cert.KernelIdeal.Gen

open Idealize.ShloMosaic
open Idealize.ShloMosaic.TcCoe
open Idealize.ShloMosaic.ValueIdx

variable (m : (ℓ : Loc nD τ sig) → Buf (Elt Ideal) ℓ)

/-! ## Entries by number -/

/-- Entry `(r, k)` of device `c`'s part of the first operand, and `(k, q)` of the second's. -/
def xE (c : Dev nD) (r k : ℕ) : EReal :=
  (show S2048x512.Idx → EReal from m ((c : Thread nD τ).loc main_arg0)) (ix2 (Fin.ofNat 2048 r) (Fin.ofNat 512 k))
def wE (c : Dev nD) (k q : ℕ) : EReal :=
  (show S512x2048.Idx → EReal from m ((c : Thread nD τ).loc main_arg1)) (ix2 (Fin.ofNat 512 k) (Fin.ofNat 2048 q))

/-- Entry `(r, q)` of device `c`'s product. -/
def part (c : Dev nD) (r q : ℕ) : EReal := ∑ k : Fin 512, xE m c r k.val * wE m c k.val q

theorem zero_off : (fun a => win0_0.index (0 : Fin 1) a * main_arg0.ty.shape.size a) = fun _ => 0 := funext fun a => by fin_cases a <;> decide
theorem zero_off' : (fun a => win0_1.index (0 : Fin 1) a * main_arg1.ty.shape.size a) = fun _ => 0 := funext fun a => by fin_cases a <;> decide

/-- A staged operand is the whole array. -/
theorem xstg_eq (c : Dev nD) : xstg m c = m ((c : Thread nD τ).loc main_arg0) :=
  Memref.read_access_unit_zero (Elt Ideal) main_arg0 zero_off (fun a => by rw [congrFun zero_off a]; simp) (m ((c : Thread nD τ).loc main_arg0))
theorem wstg_eq (c : Dev nD) : wstg m c = m ((c : Thread nD τ).loc main_arg1) :=
  Memref.read_access_unit_zero (Elt Ideal) main_arg1 zero_off' (fun a => by rw [congrFun zero_off' a]; simp) (m ((c : Thread nD τ).loc main_arg1))

theorem xAt_apply (c : Dev nD) (off : Fin 2 → ℕ) (inb : ∀ a, off a + S512x512.size a ≤ S2048x512.size a) (r k : Fin 512) :
    xAt m c off inb (ix2 r k) = xE m c (off 0 + r.val) (off 1 + k.val) := by
  have h0 : off 0 + 512 ≤ 2048 := inb 0
  have h1 : off 1 + 512 ≤ 512 := inb 1
  unfold xAt xE
  rw [View.readAt_apply, xstg_eq]
  refine congrArg (m ((c : Thread nD τ).loc main_arg0)) (funext fun a => Fin.ext ?_)
  match a with
  | ⟨0, _⟩ =>
    show off 0 + 1 * r.val = (off 0 + r.val) % 2048
    rw [Nat.mod_eq_of_lt (by omega)]; omega
  | ⟨1, _⟩ =>
    show off 1 + 1 * k.val = (off 1 + k.val) % 512
    rw [Nat.mod_eq_of_lt (by omega)]; omega

theorem wAt_apply (c : Dev nD) (off : Fin 2 → ℕ) (inb : ∀ a, off a + S512x512.size a ≤ S512x2048.size a) (k q : Fin 512) :
    wAt m c off inb (ix2 k q) = wE m c (off 0 + k.val) (off 1 + q.val) := by
  have h0 : off 0 + 512 ≤ 512 := inb 0
  have h1 : off 1 + 512 ≤ 2048 := inb 1
  unfold wAt wE
  rw [View.readAt_apply, wstg_eq]
  refine congrArg (m ((c : Thread nD τ).loc main_arg1)) (funext fun a => Fin.ext ?_)
  match a with
  | ⟨0, _⟩ =>
    show off 0 + 1 * k.val = (off 0 + k.val) % 512
    rw [Nat.mod_eq_of_lt (by omega)]; omega
  | ⟨1, _⟩ =>
    show off 1 + 1 * q.val = (off 1 + q.val) % 2048
    rw [Nat.mod_eq_of_lt (by omega)]; omega

theorem wAt2_apply (c : Dev nD) (off : Fin 2 → ℕ) (inb : ∀ a, off a + S512x1024.size a ≤ S512x2048.size a) (k : Fin 512) (q : Fin 1024) :
    wAt2 m c off inb (ix2 k q) = wE m c (off 0 + k.val) (off 1 + q.val) := by
  have h0 : off 0 + 512 ≤ 512 := inb 0
  have h1 : off 1 + 1024 ≤ 2048 := inb 1
  unfold wAt2 wE
  rw [View.readAt_apply, wstg_eq]
  refine congrArg (m ((c : Thread nD τ).loc main_arg1)) (funext fun a => Fin.ext ?_)
  match a with
  | ⟨0, _⟩ =>
    show off 0 + 1 * k.val = (off 0 + k.val) % 512
    rw [Nat.mod_eq_of_lt (by omega)]; omega
  | ⟨1, _⟩ =>
    show off 1 + 1 * q.val = (off 1 + q.val) % 2048
    rw [Nat.mod_eq_of_lt (by omega)]; omega

/-! ## The products -/

section Products
variable (A : FVec Ideal S512x512 .bf16)

/-- A product into a zero accumulator, entry by entry. -/
theorem mm (B : FVec Ideal S512x512 .bf16) (i j : Fin 512) :
    matmul dot_S512x512_S512x512_S512x512_1_0_0_1_n_n none A B (constant S512x512 .f32 0x00000000#32) (ix2 i j) = ∑ k : Fin 512, A (ix2 i k) * B (ix2 k j) := by
  refine (Ideal.matmul_plain_apply (M := 512) (K := 512) (N := 512) none A B (constant S512x512 .f32 0x00000000#32) i j).trans ?_
  rw [show constant (F := Ideal) S512x512 .f32 0x00000000#32 (ix2 i j) = 0 from Ideal.ofBits_zero_f32, zero_add]
theorem mm2 (B : FVec Ideal S512x1024 .bf16) (i : Fin 512) (j : Fin 1024) :
    matmul dot_S512x512_S512x1024_S512x1024_1_0_0_1_n_n none A B (constant S512x1024 .f32 0x00000000#32) (ix2 i j) = ∑ k : Fin 512, A (ix2 i k) * B (ix2 k j) := by
  refine (Ideal.matmul_plain_apply (M := 512) (K := 512) (N := 1024) none A B (constant S512x1024 .f32 0x00000000#32) i j).trans ?_
  rw [show constant (F := Ideal) S512x1024 .f32 0x00000000#32 (ix2 i j) = 0 from Ideal.ofBits_zero_f32, zero_add]
end Products

/-- A product of a row block with a column block is that block of the device's product. -/
theorem mm_part (c : Dev nD) (o p : Fin 2 → ℕ) (ho : ∀ a, o a + S512x512.size a ≤ S2048x512.size a) (hp : ∀ a, p a + S512x512.size a ≤ S512x2048.size a) (i j : Fin 512) :
    matmul (φ₁ := .bf16) (φ₂ := .bf16) dot_S512x512_S512x512_S512x512_1_0_0_1_n_n none (xAt m c o ho) (wAt m c p hp) (constant S512x512 .f32 0x00000000#32) (ix2 i j)
      = part m c (o 0 + i.val) (p 1 + j.val) := by
  have h1 : o 1 + 512 ≤ 512 := ho 1
  have h2 : p 0 + 512 ≤ 512 := hp 0
  rw [mm]; unfold part
  refine Finset.sum_congr rfl fun k _ => ?_
  rw [xAt_apply, wAt_apply, show o 1 + k.val = k.val by omega, show p 0 + k.val = k.val by omega]
theorem mm2_part (c : Dev nD) (o p : Fin 2 → ℕ) (ho : ∀ a, o a + S512x512.size a ≤ S2048x512.size a) (hp : ∀ a, p a + S512x1024.size a ≤ S512x2048.size a)
    (i : Fin 512) (j : Fin 1024) :
    matmul (φ₁ := .bf16) (φ₂ := .bf16) dot_S512x512_S512x1024_S512x1024_1_0_0_1_n_n none (xAt m c o ho) (wAt2 m c p hp) (constant S512x1024 .f32 0x00000000#32) (ix2 i j)
      = part m c (o 0 + i.val) (p 1 + j.val) := by
  have h1 : o 1 + 512 ≤ 512 := ho 1
  have h2 : p 0 + 512 ≤ 512 := hp 0
  rw [mm2]; unfold part
  refine Finset.sum_congr rfl fun k _ => ?_
  rw [xAt_apply, wAt2_apply, show o 1 + k.val = k.val by omega, show p 0 + k.val = k.val by omega]

/-- What a device sends first: its own product for the chunk of the device its other neighbour is. -/
theorem snd0_apply (d : Bool) (s : Fin 2) (c : Dev nD) (i j : Fin 512) :
    snd0 m d s c (ix2 i j) = part m c (512 * (tgt (!d) c).val + i.val) (col (d, s) + j.val) := by
  match d, s with
  | false, 0 =>
    show dn3 (e := .fp8e4m3) (k0_pay1 _ _) _ = _
    unfold k0_pay1 dn3
    rw [shapeCast_shapeCast, shapeCast_self, shapeCast_self]
    exact (mm_part m c _ _ _ _ i j).trans (by rw [k0_off1_eq]; rfl)
  | false, 1 =>
    show dn3 (e := .fp8e4m3) (k0_pay2 _ _) _ = _
    unfold k0_pay2 dn3
    rw [shapeCast_shapeCast, shapeCast_self, shapeCast_self]
    exact (mm_part m c _ _ _ _ i j).trans (by rw [k0_off1_eq]; rfl)
  | true, 0 =>
    show dn3 (e := .fp8e4m3) (k0_pay3 _ _) _ = _
    unfold k0_pay3 dn3
    rw [shapeCast_shapeCast, shapeCast_self, shapeCast_self]
    exact (mm_part m c _ _ _ _ i j).trans (by rw [k0_off2_eq]; rfl)
  | true, 1 =>
    show dn3 (e := .fp8e4m3) (k0_pay4 _ _) _ = _
    unfold k0_pay4 dn3
    rw [shapeCast_shapeCast, shapeCast_self, shapeCast_self]
    exact (mm_part m c _ _ _ _ i j).trans (by rw [k0_off2_eq]; rfl)

/-- The chunk a device adds to on a hop, and the product it holds ready for it. -/
def chunk (d : Bool) (h : ℕ) (c : Dev nD) : ℕ := bif d then (c.val + 2 + h) % 4 else (c.val + 6 - h) % 4
def loc (d : Bool) (h : Fin 3) (c : Dev nD) : FVec Ideal S512x1024 .f32 := match d, h with
  | false, 0 => locR0 m c
  | false, 1 => locR1 m c
  | false, 2 => locR2 m c
  | true, 0 => locL0 m c
  | true, 1 => locL1 m c
  | true, 2 => locL2 m c

theorem loc_apply (d : Bool) (h : Fin 3) (c : Dev nD) (i : Fin 512) (j : Fin 1024) :
    loc m d h c (ix2 i j) = part m c (512 * chunk d h.val c + i.val) ((bif d then 1024 else 0) + j.val) := by
  match d, h with
  | false, 0 =>
    show k0_pay5 _ _ _ = _
    unfold k0_pay5
    rw [shapeCast_self, shapeCast_self]
    exact (mm2_part m c _ _ _ _ i j).trans (by rw [show k0_off3 c 0#32 = _ from k0_off3_eq c 0]; rfl)
  | false, 1 =>
    show k0_pay7 (k0_pay6 _) _ _ = _
    unfold k0_pay7 k0_pay6
    rw [shapeCast_self, shapeCast_self]
    exact (mm2_part m c _ _ _ _ i j).trans (by rw [show k0_off3 c 1#32 = _ from k0_off3_eq c 1]; rfl)
  | false, 2 =>
    show k0_pay8 _ _ _ = _
    unfold k0_pay8
    rw [shapeCast_self, shapeCast_self]
    exact (mm2_part m c _ _ _ _ i j).trans (by rw [show k0_off3 c 2#32 = _ from k0_off3_eq c 2]; rfl)
  | true, 0 =>
    show k0_pay9 _ _ _ = _
    unfold k0_pay9
    rw [shapeCast_self, shapeCast_self]
    exact (mm2_part m c _ _ _ _ i j).trans (by rw [show k0_off4 c 0#32 = _ from k0_off4_eq c 0]; rfl)
  | true, 1 =>
    show k0_pay10 _ _ _ = _
    unfold k0_pay10
    rw [shapeCast_self, shapeCast_self]
    exact (mm2_part m c _ _ _ _ i j).trans (by rw [show k0_off4 c 1#32 = _ from k0_off4_eq c 1]; rfl)
  | true, 2 =>
    show k0_pay11 _ _ _ = _
    unfold k0_pay11
    rw [shapeCast_self, shapeCast_self]
    exact (mm2_part m c _ _ _ _ i j).trans (by rw [show k0_off4 c 2#32 = _ from k0_off4_eq c 2]; rfl)

/-! ## The partial sums -/

/-- Column `j` of half `s`. -/
def inHalf (s : Fin 2) (j : Fin 512) : Fin 1024 := ⟨512 * s.val + j.val, by have := s.isLt; have := j.isLt; omega⟩

theorem slice0 (L : FVec Ideal S512x1024 .f32) (i j : Fin 512) :
    extractStridedSlice S512x512 ![0, 0] L slices_S512x1024_o0_0_S512x512 (ix2 i j) = L (ix2 i (inHalf 0 j)) :=
  congrArg L (funext fun a => Fin.ext (by
    match a with
    | ⟨0, _⟩ => exact Nat.zero_add _
    | ⟨1, _⟩ => rfl))
theorem slice1 (L : FVec Ideal S512x1024 .f32) (i j : Fin 512) :
    extractStridedSlice S512x512 ![0, 512] L slices_S512x1024_o0_512_S512x512 (ix2 i j) = L (ix2 i (inHalf 1 j)) :=
  congrArg L (funext fun a => Fin.ext (by
    match a with
    | ⟨0, _⟩ => exact Nat.zero_add _
    | ⟨1, _⟩ => rfl))

/-- On each hop a device adds its own product to what it received, at every entry. -/
theorem snd1_apply (d : Bool) (s : Fin 2) (c : Dev nD) (i j : Fin 512) :
    snd1 m d s c (ix2 i j) = snd0 m d s (tgt (!d) c) (ix2 i j) + loc m d 0 c (ix2 i (inHalf s j)) := by
  match d, s with
  | false, 0 =>
    show dn4 (e := .bf16) (k0_pay12 _ _) _ = _
    unfold k0_pay12 dn4 up3
    rw [shapeCast_shapeCast, shapeCast_shapeCast]
    exact congrArg (snd0 m false 0 (tgt true c) (ix2 i j) + ·) (slice0 _ i j)
  | false, 1 =>
    show dn4 (e := .bf16) (k0_pay15 (k0_pay14 _ _)) _ = _
    unfold k0_pay15 k0_pay14 dn4 up3
    rw [shapeCast_shapeCast, shapeCast_shapeCast]
    exact congrArg (snd0 m false 1 (tgt true c) (ix2 i j) + ·) (slice1 _ i j)
  | true, 0 =>
    show dn4 (e := .bf16) (k0_pay13 _ _) _ = _
    unfold k0_pay13 dn4 up3
    rw [shapeCast_shapeCast, shapeCast_shapeCast]
    exact congrArg (snd0 m true 0 (tgt false c) (ix2 i j) + ·) (slice0 _ i j)
  | true, 1 =>
    show dn4 (e := .bf16) (k0_pay17 (k0_pay16 _ _)) _ = _
    unfold k0_pay17 k0_pay16 dn4 up3
    rw [shapeCast_shapeCast, shapeCast_shapeCast]
    exact congrArg (snd0 m true 1 (tgt false c) (ix2 i j) + ·) (slice1 _ i j)

theorem snd2_apply (d : Bool) (s : Fin 2) (c : Dev nD) (i j : Fin 512) :
    snd2 m d s c (ix2 i j) = snd1 m d s (tgt (!d) c) (ix2 i j) + loc m d 1 c (ix2 i (inHalf s j)) := by
  match d, s with
  | false, 0 =>
    show dn4 (e := .bf16) (k0_pay19 _ (k0_pay18 _)) _ = _
    unfold k0_pay19 k0_pay18 dn4 up4
    rw [shapeCast_shapeCast, shapeCast_shapeCast]
    exact congrArg (snd1 m false 0 (tgt true c) (ix2 i j) + ·) (slice0 _ i j)
  | false, 1 =>
    show dn4 (e := .bf16) (k0_pay21 _ _) _ = _
    unfold k0_pay21 dn4 up4
    rw [shapeCast_shapeCast, shapeCast_shapeCast]
    exact congrArg (snd1 m false 1 (tgt true c) (ix2 i j) + ·) (slice1 _ i j)
  | true, 0 =>
    show dn4 (e := .bf16) (k0_pay20 _ _) _ = _
    unfold k0_pay20 dn4 up4
    rw [shapeCast_shapeCast, shapeCast_shapeCast]
    exact congrArg (snd1 m true 0 (tgt false c) (ix2 i j) + ·) (slice0 _ i j)
  | true, 1 =>
    show dn4 (e := .bf16) (k0_pay22 _ _) _ = _
    unfold k0_pay22 dn4 up4
    rw [shapeCast_shapeCast, shapeCast_shapeCast]
    exact congrArg (snd1 m true 1 (tgt false c) (ix2 i j) + ·) (slice1 _ i j)

/-- The activation of one value, as the kernel computes it. -/
def act (y : EReal) : EReal :=
  (Ideal.ofBits .f32 0x3F000000#32 * y)
    * (Ideal.ofBits .f32 0x3F800000#32 + Ideal.tanh (Ideal.ofBits .f32 0x3F4C422A#32 * (y + Ideal.ofBits .f32 0x3D372713#32 * y * y * y)))

theorem outC_apply (d : Bool) (s : Fin 2) (c : Dev nD) (i j : Fin 512) :
    outC m (d, s) c (ix2 i j) = act (snd2 m d s (tgt (!d) c) (ix2 i j) + loc m d 2 c (ix2 i (inHalf s j))) := by
  match d, s with
  | false, 0 =>
    show dn4 (e := .f32) (k0_pay23 _ _) _ = _
    unfold k0_pay23 dn4 up4
    rw [shapeCast_shapeCast, shapeCast_shapeCast]
    exact congrArg (fun z => act (snd2 m false 0 (tgt true c) (ix2 i j) + z)) (slice0 _ i j)
  | false, 1 =>
    show dn4 (e := .f32) (k0_pay29 (k0_pay27 _ _) (k0_pay28 _ _)) _ = _
    unfold k0_pay29 k0_pay27 k0_pay28 k0_pay26 dn4 up4
    rw [shapeCast_shapeCast, shapeCast_shapeCast]
    exact congrArg (fun z => act (snd2 m false 1 (tgt true c) (ix2 i j) + z)) (slice1 _ i j)
  | true, 0 =>
    show dn4 (e := .f32) (k0_pay25 (k0_pay24 _ _)) _ = _
    unfold k0_pay25 k0_pay24 dn4 up4
    rw [shapeCast_shapeCast, shapeCast_shapeCast]
    exact congrArg (fun z => act (snd2 m true 0 (tgt false c) (ix2 i j) + z)) (slice0 _ i j)
  | true, 1 =>
    show dn4 (e := .f32) (k0_pay31 (k0_pay30 _ _) _) _ = _
    unfold k0_pay31 k0_pay30 dn4 up4
    rw [shapeCast_shapeCast, shapeCast_shapeCast]
    exact congrArg (fun z => act (snd2 m true 1 (tgt false c) (ix2 i j) + z)) (slice1 _ i j)

theorem col_half (d : Bool) (s : Fin 2) (j : Fin 512) : (bif d then 1024 else 0) + (inHalf s j).val = col (d, s) + j.val := by
  revert d s; simp only [Bool.forall_bool, Fin.forall_fin_two, inHalf, col]
  refine ⟨⟨?_, ?_⟩, ?_, ?_⟩ <;> simp <;> omega

/-- The sums the four devices' chunks go through are all of the chunk that ends on the last of them. -/
theorem chunks (d : Bool) (c : Dev nD) : chunk d 2 c = c.val ∧ chunk d 1 (tgt (!d) c) = c.val ∧ chunk d 0 (tgt (!d) (tgt (!d) c)) = c.val
    ∧ (tgt (!d) (tgt (!d) (tgt (!d) (tgt (!d) c)))).val = c.val := by
  revert d c; decide

/-- Going round the ring once meets every device. -/
theorem around (d : Bool) (c : Dev nD) (f : Dev nD → EReal) :
    f (tgt (!d) (tgt (!d) (tgt (!d) c))) + f (tgt (!d) (tgt (!d) c)) + f (tgt (!d) c) + f c = ∑ p : Dev nD, f p := by
  have e : ∑ p : Dev nD, f p = f 0 + f 1 + f 2 + f 3 := Fin.sum_univ_four f
  rw [e]
  match d, c with
  | false, 0 => show f 1 + f 2 + f 3 + f 0 = _; ac_rfl
  | false, 1 => show f 2 + f 3 + f 0 + f 1 = _; ac_rfl
  | false, 2 => show f 3 + f 0 + f 1 + f 2 = _; ac_rfl
  | false, 3 => rfl
  | true, 0 => show f 3 + f 2 + f 1 + f 0 = _; ac_rfl
  | true, 1 => show f 0 + f 3 + f 2 + f 1 = _; ac_rfl
  | true, 2 => show f 1 + f 0 + f 3 + f 2 = _; ac_rfl
  | true, 3 => show f 2 + f 1 + f 0 + f 3 = _; ac_rfl

/-- A tile's entry: the activation of the four devices' products summed. -/
theorem outC_eq (d : Bool) (s : Fin 2) (c : Dev nD) (i j : Fin 512) :
    outC m (d, s) c (ix2 i j) = act (∑ p : Dev nD, part m p (512 * c.val + i.val) (col (d, s) + j.val)) := by
  obtain ⟨h2, h1, h0, hs⟩ := chunks d c
  rw [outC_apply, snd2_apply, snd1_apply, snd0_apply, loc_apply, loc_apply, loc_apply, col_half, hs]
  rw [show chunk d (2 : Fin 3).val c = c.val from h2, show chunk d (1 : Fin 3).val (tgt (!d) c) = c.val from h1,
    show chunk d (0 : Fin 3).val (tgt (!d) (tgt (!d) c)) = c.val from h0]
  exact congrArg act (around d c fun p => part m p (512 * c.val + i.val) (col (d, s) + j.val))

/-- An entry of a device's result: the activation of the full product's entry in the device's chunk. -/
theorem outAt_eq (c : Dev nD) (r : Fin 512) (q : Fin 2048) :
    outAt m c (ix2 r q) = act (∑ p : Dev nD, part m p (512 * c.val + r.val) q.val) := by
  obtain ⟨h1, h2⟩ := col_tileOf q.val q.isLt
  show outC m (tileOf q.val) c (inTile (ix2 r q)) = _
  have hm : q.val % 512 < 512 := Nat.mod_lt _ (by decide)
  rw [show inTile (ix2 r q) = ix2 r ⟨q.val % 512, hm⟩ from funext fun a => by
    match a with
    | ⟨0, _⟩ => rfl
    | ⟨1, _⟩ => rfl]
  refine (outC_eq m (tileOf q.val).1 (tileOf q.val).2 c r ⟨q.val % 512, hm⟩).trans ?_
  have hc : col (tileOf q.val) + q.val % 512 = q.val := by
    have := col_mod (tileOf q.val)
    omega
  show act (∑ p : Dev nD, part m p (512 * c.val + r.val) (col (tileOf q.val) + q.val % 512)) = _
  rw [hc]

end Cert.Gemm

end
-- ==== Proof.Deal.lean ====
/- The launch's ghost state dealt to the devices: cells, tokens, credit. -/
module

public import proofs.«01_k».proof.Proof.Body

@[expose] public section

noncomputable section

namespace Cert.Gemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What is dealt -/

theorem over_cells (Φ : CK → sProp 𝕄) : bigSep Finset.univ Φ = iprop(Φ none ∗ bigSep Finset.univ fun k : Own => Φ (some k)) := by
  rw [bigSep_erase (Finset.mem_univ none)]
  have h : (Finset.univ : Finset CK).erase none = (Finset.univ : Finset Own).map ⟨some, Option.some_injective _⟩ := by
    ext k
    simp only [Finset.mem_erase, Finset.mem_univ, and_true, Finset.mem_map, true_and, Function.Embedding.coeFn_mk]
    cases k <;> simp
  rw [h, bigSep_map]; rfl

theorem over_own (Φ : Own → sProp 𝕄) : bigSep Finset.univ Φ
    = iprop(((bigSep Finset.univ fun σ : Slot => Φ (.inl (.inl σ))) ∗ bigSep Finset.univ fun σ : Slot => Φ (.inl (.inr σ)))
      ∗ bigSep Finset.univ fun t : Tile => Φ (.inr t)) := by
  rw [bigSep_univ_sum, bigSep_univ_sum]; rfl

def ringCells : Finset (GSem nD τ sig) := Finset.univ.map ⟨kcell, kcell_injective⟩

/-- A duty of one of a device's cells: either signal at its barrier, or the transfer of one of its own semaphores. -/
abbrev Duty : Type := Bool ⊕ Own
abbrev tokOf (cj : Dev nD × Duty) : GSem nD τ sig × ℕ × Bool := match cj.2 with
  | .inl d => (barCell cj.1, 0, d)
  | .inr k => (kcell (cj.1, some k), 0, false)
theorem tokOf_injective : Function.Injective tokOf := by
  rintro ⟨c, j⟩ ⟨c', j'⟩ h
  match j, j', h with
  | .inl d, .inl d', h =>
    have h1 : (c, (none : CK)) = (c', none) := kcell_injective (congrArg Prod.fst h)
    have h2 : d = d' := congrArg (fun x : GSem nD τ sig × ℕ × Bool => x.2.2) h
    have h3 : c = c' := congrArg Prod.fst h1
    rw [h3, h2]
  | .inr k, .inr k', h =>
    have h1 : (c, (some k : CK)) = (c', some k') := kcell_injective (congrArg Prod.fst h)
    have h3 : c = c' := congrArg Prod.fst h1
    have h4 : k = k' := Option.some.inj (congrArg Prod.snd h1)
    rw [h3, h4]
  | .inl d, .inr k, h => exact absurd (kcell_injective (a₁ := (c, none)) (a₂ := (c', some k)) (congrArg Prod.fst h)) (fun h => by cases h)
  | .inr k, .inl d, h => exact absurd (kcell_injective (a₁ := (c, some k)) (a₂ := (c', none)) (congrArg Prod.fst h)) (fun h => by cases h)
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of device `c`'s own cells. -/
def toks (c : Dev nD) : sProp 𝕄 :=
  iprop((bigSep Finset.univ fun d : Bool => dutyTok ER (barCell c) 0 d) ∗ bigSep Finset.univ fun k : Own => dutyTok ER (kcell (c, some k)) 0 false)

def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The cells' invariants made -/

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, over_cells]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to who pays -/

/-- The tokens of the duties device `c` pays. -/
def payToks (c : Dev nD) : sProp 𝕄 :=
  iprop((dutyTok ER (barCell (tgt true c)) 0 false ∗ dutyTok ER (barCell (tgt false c)) 0 true)
    ∗ (bigSep Finset.univ fun σ : Slot => tok (F := F) c σ) ∗ bigSep Finset.univ fun t : Tile => dutyTok ER (outCell c t) 0 false)
/-- What stays with device `c`: its cells' places and those tokens. -/
def linear (c : Dev nD) : sProp 𝕄 := iprop((bigSep Finset.univ fun k : CK => atPos ER (kcell (c, k)) 0 ∅ 0) ∗ payToks c)
/-- What the global step leaves it. -/
def G' (c : Dev nD) : sProp 𝕄 := iprop(∃ K, recs m K ∗ linear c)

theorem ring_around (d : Bool) (Φ : Dev nD → sProp 𝕄) : (bigSep Finset.univ fun c : Dev nD => Φ c) = bigSep Finset.univ fun c : Dev nD => Φ (tgt d c) :=
  bigSep_univ_equiv (ring d) Φ

theorem swap {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod fun p : I × J => Φ p.1 p.2, ← bigSep_univ_prod fun p : J × I => Φ p.2 p.1]
  exact bigSep_univ_equiv (Equiv.prodComm J I) fun p : I × J => Φ p.1 p.2

theorem recv_around : (bigSep Finset.univ fun c : Dev nD => bigSep Finset.univ fun σ : Slot => (dutyTok ER (recvCell c σ) 0 false : sProp 𝕄))
    = bigSep Finset.univ fun c : Dev nD => bigSep Finset.univ fun σ : Slot => (dutyTok ER (recvCell (tgt σ.1 c) σ) 0 false : sProp 𝕄) := by
  rw [swap, swap fun (c : Dev nD) (σ : Slot) => (dutyTok ER (recvCell (tgt σ.1 c) σ) 0 false : sProp 𝕄)]
  exact bigSep_congr fun σ _ => ring_around σ.1 fun c => dutyTok ER (recvCell c σ) 0 false

theorem toks_around : (bigSep Finset.univ fun c : Dev nD => (toks c : sProp 𝕄)) ⊢ bigSep Finset.univ fun c : Dev nD => payToks c := by
  have hb (c : Dev nD) : (bigSep Finset.univ fun d : Bool => (dutyTok ER (barCell c) 0 d : sProp 𝕄))
      = iprop(dutyTok ER (barCell c) 0 false ∗ dutyTok ER (barCell c) 0 true) := by
    rw [bigSep_univ_eq_bigSepL [false, true] (by decide) (by decide), bigSepL_cons_cons, bigSepL_singleton]; rfl
  unfold toks payToks tok
  simp only [hb, over_own, bigSep_sep']
  rw [recv_around, ring_around true fun c => (dutyTok ER (barCell c) 0 false : sProp 𝕄), ring_around false fun c => (dutyTok ER (barCell c) 0 true : sProp 𝕄)]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (with_persistent (R := recs m K) fun c _ => (show iprop(recs m K ∗ linear c) ⊢ G' m c from by
    unfold G'; iintro H; iexists K; iexact H))
  isplitr
  · unfold recs; isplitl; · iexact HI
    iexact HR
  · iapply (Entails.of_eq (bigSep_sep' Finset.univ (fun c : Dev nD => bigSep Finset.univ fun k : CK => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem kcell_eq_iff {a b : Dev nD} {k k' : CK} : Iff (kcell (a, k) = kcell (b, k')) (a = b ∧ k = k') :=
  ⟨fun h => ⟨congrArg Prod.fst (kcell_injective h), congrArg Prod.snd (kcell_injective h)⟩, fun ⟨h, h'⟩ => by rw [h, h']⟩

theorem tgt_eq_iff {d : Bool} {a b : Dev nD} : Iff (a = tgt d b) (b = tgt (!d) a) :=
  ⟨fun h => by rw [h, tgt_tgt], fun h => by rw [h, tgt_tgt']⟩

/-- What is owed for a list of transfers, at one landing's cell. -/
theorem Ol_at (d c : Dev nD) (σ : Slot) (l : List Slot) (hl : l.Nodup) :
    Ol d l (recvCell c σ) () = if σ ∈ l ∧ d = tgt (!σ.1) c then tileN (ety σ.2.1) else 0 := by
  induction l with
  | nil => exact (if_neg fun h => absurd h.1 List.not_mem_nil).symm
  | cons σ' l ih =>
    obtain ⟨hn, hl⟩ := List.nodup_cons.mp hl
    rw [show Ol d (σ' :: l) = Ol d l + tallyAt (recvCell (tgt σ'.1 d) σ') () (tileN (ety σ'.2.1)) from rfl,
      Pi.add_apply, Finsupp.add_apply, tallyAt_apply, ih hl]
    by_cases hσ : σ = σ'
    · subst hσ
      rw [if_neg (fun h => hn h.1), Nat.zero_add]
      refine if_congr ⟨fun h => ⟨List.mem_cons_self, tgt_eq_iff.mp (kcell_eq_iff.mp h.1).1⟩, fun h => ⟨kcell_eq_iff.mpr ⟨?_, rfl⟩, rfl⟩⟩ rfl rfl
      rw [h.2, tgt_tgt']
    · rw [if_neg (c := recvCell c σ = recvCell (tgt σ'.1 d) σ' ∧ () = ()) (fun h => hσ (by
        have := (kcell_eq_iff.mp h.1).2
        exact Sum.inr.inj (Sum.inl.inj (Option.some.inj this)))), Nat.add_zero]
      exact if_congr (and_congr_left' (by rw [List.mem_cons]; exact ⟨Or.inr, fun h => h.resolve_left hσ⟩)) rfl rfl

theorem Ol_bar (d c : Dev nD) (l : List Slot) : Ol d l (barCell c) () = 0 := by
  by_contra h
  obtain ⟨σ, -, e⟩ := Ol_pos (Nat.pos_of_ne_zero h)
  exact absurd (kcell_eq_iff.mp e).2 (fun h => by cases h)

theorem in_order (σ : Slot) : σ ∈ order := by revert σ; decide

theorem owed_recv (d c : Dev nD) (σ : Slot) : O₀ d (recvCell c σ) () = if d = tgt (!σ.1) c then tileN (ety σ.2.1) else 0 := by
  unfold O₀ O₁
  rw [Pi.add_apply, Finsupp.add_apply, Pi.add_apply, Finsupp.add_apply,
    tallyAt_ne_cell (fun h => absurd (kcell_eq_iff.mp h).2 (fun h => by cases h)), tallyAt_ne_cell (fun h => absurd (kcell_eq_iff.mp h).2 (fun h => by cases h)),
    Finsupp.zero_apply, Nat.add_zero, Nat.add_zero, Ol_at d c σ order (by decide)]
  exact if_congr ⟨fun h => h.2, fun h => ⟨in_order σ, h⟩⟩ rfl rfl

theorem owed_bar (d c : Dev nD) : O₀ d (barCell c) () = (if d = tgt true c then 1 else 0) + (if d = tgt false c then 1 else 0) := by
  unfold O₀ O₁
  rw [Pi.add_apply, Finsupp.add_apply, Pi.add_apply, Finsupp.add_apply, tallyAt_apply, tallyAt_apply, Ol_bar, Nat.zero_add]
  congr 1
  · exact if_congr ⟨fun h => tgt_eq_iff (d := false).mp (kcell_eq_iff.mp h.1).1, fun h => ⟨kcell_eq_iff.mpr ⟨tgt_eq_iff.mpr h, rfl⟩, rfl⟩⟩ rfl rfl
  · exact if_congr ⟨fun h => tgt_eq_iff (d := true).mp (kcell_eq_iff.mp h.1).1, fun h => ⟨kcell_eq_iff.mpr ⟨tgt_eq_iff.mpr h, rfl⟩, rfl⟩⟩ rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (tgt true c) fun _ => 1, Finset.sum_ite_eq' Finset.univ (tgt false c) fun _ => 1, if_pos (Finset.mem_univ _), if_pos (Finset.mem_univ _)]

theorem launch_recv (c : Dev nD) (σ : Slot) :
    tallyOn (recvCell c σ) (launchCredit (Pipeline.owing O₀) 0 (recvCell c σ)) = (tallyAt (recvCell c σ) () (tileN (ety σ.2.1)) : CellTallies nD τ sig Unit) := by
  unfold tallyAt; refine congrArg _ (Finsupp.ext fun u => ?_); cases u
  rw [Pipeline.launchCredit_owing, Finsupp.single_eq_same, Finset.sum_congr rfl fun d _ => owed_recv d c σ,
    Finset.sum_ite_eq' Finset.univ (tgt (!σ.1) c) fun _ => tileN (ety σ.2.1), if_pos (Finset.mem_univ _)]

/-- The credit device `c` starts with: its barrier's two units, every landing's amount. -/
theorem creds (c : Dev nD) :
    (Pipeline.launchCred O₀ c : sProp 𝕄) ⊢ iprop(cred (tallyAt (barCell c) () 2)
      ∗ bigSep Finset.univ fun σ : Slot => cred (tallyAt (recvCell c σ) () (tileN (ety σ.2.1)))) := by
  have hi : Function.Injective fun σ : Slot => csem (some (.inl (.inr σ))) := fun a b h => Sum.inr.inj (Sum.inl.inj (Option.some.inj (csem_injective h)))
  unfold Pipeline.launchCred
  rw [bigSep_univ_at _ (SemLoc.reg barS), launch_bar]
  refine sep_mono_right ?_
  refine (bigSep_subset (t := (Finset.univ : Finset Slot).map ⟨_, hi⟩) fun sm h => ?_).trans ?_
  · obtain ⟨σ, -, rfl⟩ := Finset.mem_map.mp h
    exact Finset.mem_erase.mpr ⟨(fun h => by cases h), Finset.mem_univ _⟩
  · rw [bigSep_map]
    exact bigSep_mono fun σ _ => Entails.of_eq (congrArg cred (launch_recv c σ))

end Cert.Gemm

end
-- ==== Proof.Launch.lean ====
/- The launch: the pipeline's proof data, the body's obligation, and the run of the program. -/
module

public import proofs.«01_k».proof.Proof.Split
public import proofs.«01_k».proof.Proof.Deal
public import proofs.«01_k».proof.Proof.Gen.KernelIdeal.Points
public import Idealize.ShloMosaic.Lib.Pipeline.CollectiveSegs

@[expose] public section

noncomputable section

namespace Cert.Gemm

open Cert.KernelIdeal Cert.KernelIdeal.Gen

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The scratch buffers -/

/-- The two slots of a direction's bfloat16 buffers that no transfer uses. -/
def idle (c : Dev nD) (B : Memref sig .tc .vmem S3x2x512x512 .bf16) : sProp 𝕄 := iprop(any c (slot4 B (0, 0)) ∗ any c (slot4 B (0, 1)))
def idles (c : Dev nD) : sProp 𝕄 :=
  iprop((idle c (snd16 false) ∗ idle c (snd16 true)) ∗ (idle c (rcv16 false) ∗ idle (F := F) c (rcv16 true)))

/-- The scratch buffers at some contents. -/
def scratch (c : Dev nD) : sProp 𝕄 :=
  iprop(any c (snd8 false) ∗ any c (rcv8 false) ∗ any c (snd8 true) ∗ any c (rcv8 true)
    ∗ any c (snd16 false) ∗ any c (rcv16 false) ∗ any c (snd16 true) ∗ any (F := F) c (rcv16 true) ∗ any c gM)

theorem scratch_eq (c : Dev nD) : (Pipeline.scopedRest (Ix := Unit) (Name := ℕ) (U := UU) (Lvl := ℕ) (Val := Elt F) cfg0.spec c : sProp 𝕄) = scratch c := by
  rw [scopedRest0_eq]; unfold scratch
  simp only [any_whole]

/-- All the sending slots, or all the landing slots. -/
def sends (c : Dev nD) : sProp 𝕄 := bigSep Finset.univ fun σ : Slot => any (F := F) c (sndM σ)

theorem by_way (Φ : Slot → sProp 𝕄) : bigSep Finset.univ Φ
    = iprop((bigSep Finset.univ fun hs : Fin 3 × Fin 2 => Φ (false, hs)) ∗ bigSep Finset.univ fun hs : Fin 3 × Fin 2 => Φ (true, hs)) := by
  rw [bigSep_univ_prod, bigSep_univ_eq_bigSepL [false, true] (by decide) (by decide), bigSepL_cons_cons, bigSepL_singleton]; rfl

theorem scratch_cut (c : Dev nD) : scratch (F := F) c ⊢ iprop(sends c ∗ (lands c false ∗ lands c true)
    ∗ (bigSep Finset.univ fun t : Tile => any (F := F) c (gelM t)) ∗ idles c) := by
  unfold scratch sends lands idles idle
  rw [by_way]
  iintro ⟨S8f, R8f, S8t, R8t, S16f, R16f, S16t, R16t, G⟩
  ihave Sf := (cut_hops c (snd8 false) (snd16 false)) $$ [S8f S16f]
  · isplitl [S8f] <;> iassumption
  ihave St := (cut_hops c (snd8 true) (snd16 true)) $$ [S8t S16t]
  · isplitl [S8t] <;> iassumption
  ihave Rf := (cut_hops c (rcv8 false) (rcv16 false)) $$ [R8f R16f]
  · isplitl [R8f] <;> iassumption
  ihave Rt := (cut_hops c (rcv8 true) (rcv16 true)) $$ [R8t R16t]
  · isplitl [R8t] <;> iassumption
  ihave G := (cutg c) $$ G
  icases Sf with ⟨Sf, Isf⟩
  icases St with ⟨St, Ist⟩
  icases Rf with ⟨Rf, Irf⟩
  icases Rt with ⟨Rt, Irt⟩
  isplitl [Sf St]
  · isplitl [Sf] <;> iassumption
  isplitl [Rf Rt]
  · isplitl [Rf] <;> iassumption
  isplitl [G]; · iexact G
  isplitl [Isf Ist]
  · isplitl [Isf] <;> iassumption
  · isplitl [Irf] <;> iassumption

theorem scratch_paste (c : Dev nD) : iprop(sends c ∗ (lands c false ∗ lands c true)
    ∗ (bigSep Finset.univ fun t : Tile => any (F := F) c (gelM t)) ∗ idles c) ⊢ scratch (F := F) c := by
  unfold scratch sends lands idles idle
  rw [by_way]
  iintro ⟨⟨Sf, St⟩, ⟨Rf, Rt⟩, G, ⟨Isf, Ist⟩, Irf, Irt⟩
  ihave Sf := (paste_hops c (snd8 false) (snd16 false)) $$ [Sf Isf]
  · isplitl [Sf] <;> iassumption
  ihave St := (paste_hops c (snd8 true) (snd16 true)) $$ [St Ist]
  · isplitl [St] <;> iassumption
  ihave Rf := (paste_hops c (rcv8 false) (rcv16 false)) $$ [Rf Irf]
  · isplitl [Rf] <;> iassumption
  ihave Rt := (paste_hops c (rcv8 true) (rcv16 true)) $$ [Rt Irt]
  · isplitl [Rt] <;> iassumption
  ihave G := (pasteg c) $$ G
  icases Sf with ⟨S8f, S16f⟩
  icases St with ⟨S8t, S16t⟩
  icases Rf with ⟨R8f, R16f⟩
  icases Rt with ⟨R8t, R16t⟩
  isplitl [S8f]; · iexact S8f
  isplitl [R8f]; · iexact R8f
  isplitl [S8t]; · iexact S8t
  isplitl [R8t]; · iexact R8t
  isplitl [S16f]; · iexact S16f
  isplitl [R16f]; · iexact R16f
  isplitl [S16t]; · iexact S16t
  isplitl [R16t]; · iexact R16t
  iexact G

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The credit device `c` starts with. -/
def credit (c : Dev nD) : sProp 𝕄 :=
  iprop(cred (tallyAt (barCell c) () 2) ∗ bigSep Finset.univ fun σ : Slot => cred (tallyAt (recvCell c σ) () (tileN (ety σ.2.1))))
/-- What device `c`'s body starts from, apart from its scratch. -/
def start (c : Dev nD) : sProp 𝕄 := iprop(G' m c ∗ credit c ∗ levAts L lv ∗ any (F := F) c oM)
def Φ₀ (c : Dev nD) : sProp 𝕄 := iprop(start m c ∗ scratch c)
/-- What it ends with: every slot and tile with its counters at zero, the barrier's counter at zero, the slots it left alone. -/
def Φ₁ (c : Dev nD) : sProp 𝕄 :=
  iprop((bigSep Finset.univ (kitDone (F := F) c) ∗ bigSep Finset.univ (tileDone m c) ∗ semVal (barCell c) 0) ∗ idles c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 2)).fetch t = true := by rw [fin_N t]; rfl
theorem fetch_1 (t : Fin cfg0.N) : (cfg0.win (1 : Fin 2)).fetch t = true := by rw [fin_N t]; rfl

theorem whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) :=
  owns_whole_eq (c : Thread nD τ) b fullShare X

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

theorem kits_intro (c : Dev nD) : iprop(sends c ∗ (bigSep Finset.univ fun σ : Slot => tok (F := F) c σ)
      ∗ (bigSep Finset.univ fun σ : Slot => atPos ER (sendCell c σ) 0 ∅ 0)
      ∗ (bigSep Finset.univ fun σ : Slot => cred (tallyAt (recvCell c σ) () (tileN (ety σ.2.1))))
      ∗ bigSep Finset.univ fun σ : Slot => atPos ER (recvCell c σ) 0 ∅ 0) ⊢ bigSep Finset.univ (kit (F := F) c) := by
  unfold sends
  rw [← bigSep_sep', ← bigSep_sep', ← bigSep_sep', ← bigSep_sep']
  exact bigSep_mono fun σ _ => Entails.refl _

theorem tiles_intro (c : Dev nD) : iprop((bigSep Finset.univ fun t : Tile => any (F := F) c (gelM t)) ∗ (bigSep Finset.univ fun t : Tile => any (F := F) c (outM t))
      ∗ (bigSep Finset.univ fun t : Tile => dutyTok ER (outCell c t) 0 false)
      ∗ bigSep Finset.univ fun t : Tile => atPos ER (outCell c t) 0 ∅ 0) ⊢ bigSep Finset.univ (tileKit (F := F) c) := by
  rw [← bigSep_sep', ← bigSep_sep', ← bigSep_sep']
  exact bigSep_mono fun σ _ => Entails.refl _

/-- The body's start, assembled: what the launch deals, the scratch and the two staged operands. -/
theorem pre_intro (c : Dev nD) : iprop(Φ₀ m c ∗ (∃ W : Waits sig Unit, owes (c : Thread nD τ) (O₀ c) W) ∗ staged m c)
    ⊢ iprop(∃ K, bodyPre m K c ∗ idles c) := by
  unfold Φ₀ start G' linear payToks credit
  rw [over_cells, over_own]
  iintro ⟨⟨⟨⟨%K, HR, ⟨HaB, ⟨HaS, HaV⟩, HaT⟩, ⟨Hb1, Hb2⟩, Htok, Hto⟩, ⟨HcB, HcV⟩, Hlev, Ho⟩, Hscr⟩, HO, Hst⟩
  ihave Hscr := (scratch_cut c) $$ Hscr
  icases Hscr with ⟨Hs, ⟨Hlf, Hlt⟩, Hg, Hid⟩
  ihave Ho := (cutO c) $$ Ho
  ihave Hk := (kits_intro c) $$ [Hs Htok HaS HcV HaV]
  · isplitl [Hs]; · iexact Hs
    isplitl [Htok]; · iexact Htok
    isplitl [HaS]; · iexact HaS
    isplitl [HcV]; · iexact HcV
    iexact HaV
  ihave Ht := (tiles_intro c) $$ [Hg Ho Hto HaT]
  · isplitl [Hg]; · iexact Hg
    isplitl [Ho]; · iexact Ho
    isplitl [Hto]; · iexact Hto
    iexact HaT
  iexists K
  unfold bodyPre barKit
  isplitr [Hid]
  · isplitl [HR Hlev]
    · isplitl [HR] <;> iassumption
    isplitl [Hk]; · iexact Hk
    isplitl [Ht]; · iexact Ht
    isplitl [Hlf]; · iexact Hlf
    isplitl [Hlt]; · iexact Hlt
    isplitl [Hb1 Hb2 HcB HaB]
    · isplitl [Hb1]; · iexact Hb1
      isplitl [Hb2]; · iexact Hb2
      isplitl [HcB]; · iexact HcB
      iexact HaB
    isplitl [HO]; · iexact HO
    iexact Hst
  · iexact Hid

def obPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def obPost (c : Dev nD) : sProp 𝕄 :=
  iprop(Φ₁ m c ∗ (dats m ρ 0 c).owesAt () t₀.succ ∗ stg c cc0_stg0_0 (xstg m c) ∗ stg c cc0_stg1_0 (wstg m c))

theorem obPre_elim (c : Dev nD) : obPre m ρ c ⊢ iprop(Φ₀ m c ∗ (∃ W : Waits sig Unit, owes (c : Thread nD τ) (O₀ c) W) ∗ staged m c) := by
  unfold obPre
  iintro ⟨HΦ, Ho, ⟨%d0, %g0, %hg0, Hx⟩, ⟨%d1, %g1, %hg1, Hw⟩⟩
  have hx : g0 = xstg m c := by rw [hg0]; unfold Dat.before; rw [if_pos (fetch_0 t₀)]; rfl
  have hw : g1 = wstg m c := by rw [hg1]; unfold Dat.before; rw [if_pos (fetch_1 t₀)]; rfl
  subst hx hw
  unfold Dat.owesAt Pipeline.owesWithin
  icases Ho with ⟨%W, %hW, HO⟩
  rw [show (dats m ρ 0 c).owed t₀.castSucc = O₀ c from rfl]
  isplitl [HΦ]; · iexact HΦ
  isplitl [HO]; · iexists W; iexact HO
  unfold staged
  isplitl [Hx]; · iexact Hx
  iexact Hw

theorem obPost_intro (c : Dev nD) : iprop(bodyPost m c ∗ idles c) ⊢ obPost m ρ c := by
  unfold bodyPost obPost Φ₁ OW staged Dat.owesAt Pipeline.owesWithin
  iintro ⟨⟨Hk, Ht, Hb, ⟨%W, HO⟩, Hx, Hw⟩, Hid⟩
  rw [show (dats m ρ 0 c).owed t₀.succ = 0 from rfl]
  isplitl [Hk Ht Hb Hid]
  · isplitr [Hid]
    · isplitl [Hk]; · iexact Hk
      isplitl [Ht] <;> iassumption
    iexact Hid
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hw

/-- The body at its start, run to its end; the idle slots are carried along. -/
theorem sound_ob (c : Dev nD) : obPre m ρ c ⊢ WP c (bodyAt0 (F := F) t₀) (fun _ => obPost m ρ c) := by
  refine ((obPre_elim m ρ c).trans (pre_intro m c)).trans ?_
  iintro ⟨%K, HB, HI⟩
  ihave HW := (sound_body m K c) $$ HB
  ihave HW := (wp_frame_r frame (wpE (defs₀ (F := F)) 𝒱₀ (c : Thread nD τ) none) Set.univ) $$ [HW HI]
  · isplitl [HW]
    · iexact HW
    · iexact HI
  iapply (wp_mono frame (wpE (defs₀ (F := F)) 𝒱₀ (c : Thread nD τ) none) Set.univ (fun _ => obPost_intro m ρ c)) $$ HW

set_option maxRecDepth 50000 in
theorem body_obligation (c : Dev nD) : BodyObligation (dats (F := F) m ρ 0 c) (defs₀ (F := F)) 𝒱₀ () Set.univ := fun t => by
  rw [fin_N t]
  rw [bigSep_W0, bigSep_W0]
  simp only [whole_eq]
  exact sound_ob m ρ c

/-! ## The launch's side conditions -/

theorem ownSemFacts : Pipeline.OwnSemFacts cfg0.spec osem := by decide

theorem share_eq (c : Dev nD) (w : Fin cfg0.W) : (dats m ρ 0 c).share w = fullShare := by unfold Dat.share; split <;> rfl

/-- Before the body a device waits only on the staging counters, below all it owes. -/
theorem mayWait_stage (c : Dev nD) (q : DmaSem sig) (hq : ∀ k, csem k ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨σ, rfl⟩ | ⟨d, rfl⟩ <;> exact Finset.mem_singleton_self _)
      (fun p hp => by
        rw [Finset.mem_singleton.mp hp]; dsimp only [lv]; rw [kindOf_ne hq])
      (fun g u hg => by
        rcases O₀_pos hg with ⟨σ, rfl⟩ | ⟨d, rfl⟩
        · exact lt_of_lt_of_eq (show 0 < 2 + σ.2.1.val by omega) (lv_at _ (some (.inl (.inr σ)))).symm
        · exact lt_of_lt_of_eq (by decide) (lv_at _ none).symm)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Ho, Hlev, Hcr, -, HG⟩
  ihave Hc := (creds (F := F) c) $$ Hcr
  imodintro
  unfold start credit
  rw [any_whole]
  isplitl
  · isplitl [HG]; · iexact HG
    isplitl [Hc]; · iexact Hc
    isplitl [Hlev]; · iexact Hlev
    iexists _; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs]; · iexact Hs
  iexact Hr

/-- What a device is left with: its counters of the launch and the written result. -/
def left (c : Dev nD) : sProp 𝕄 := iprop(unscopedSems0 c ∗ (((c : Thread nD τ).loc main_v1) ↦{fullShare} outAt m c))

theorem done_slots (c : Dev nD) : bigSep Finset.univ (kitDone (F := F) c)
    ⊢ iprop(sends c ∗ (lands c false ∗ lands c true) ∗ (bigSep Finset.univ fun σ : Slot => semVal (sendCell c σ) 0)
      ∗ bigSep Finset.univ fun σ : Slot => semVal (recvCell c σ) 0) := by
  have e : iprop(lands (F := F) c false ∗ lands c true) = bigSep Finset.univ fun σ : Slot => any (F := F) c (rcvM σ) := by
    rw [by_way]; rfl
  rw [e]; unfold sends
  rw [← bigSep_sep', ← bigSep_sep', ← bigSep_sep']
  exact bigSep_mono fun σ _ => Entails.refl _

theorem done_tiles (c : Dev nD) : bigSep Finset.univ (tileDone m c)
    ⊢ iprop((bigSep Finset.univ fun t : Tile => owns (c : Thread nD τ) (outM t) fullShare (outC m t c))
      ∗ (bigSep Finset.univ fun t : Tile => any (F := F) c (gelM t)) ∗ bigSep Finset.univ fun t : Tile => semVal (outCell c t) 0) := by
  have e : bigSep Finset.univ (tileDone m c) ⊢ iprop((bigSep Finset.univ fun t : Tile => iprop(owns (c : Thread nD τ) (outM t) fullShare (outC m t c) ∗ any (F := F) c (gelM t)))
      ∗ bigSep Finset.univ fun t : Tile => semVal (outCell c t) 0) := by
    rw [← bigSep_sep']; exact bigSep_mono fun σ _ => Entails.refl _
  refine e.trans ?_
  rw [bigSep_sep']
  iintro ⟨⟨A, B⟩, C⟩
  isplitl [A]; · iexact A
  isplitl [B] <;> iassumption

theorem own_zeros (c : Dev nD) : (Pipeline.ownSems0 osem c : sProp 𝕄) = iprop(((bigSep Finset.univ fun σ : Slot => semVal (sendCell c σ) 0)
      ∗ bigSep Finset.univ fun σ : Slot => semVal (recvCell c σ) 0) ∗ bigSep Finset.univ fun t : Tile => semVal (outCell c t) 0) := by
  unfold Pipeline.ownSems0
  exact over_own _

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scratch_eq, own_zeros]
  unfold Φ₁ left
  rw [unscopedSems0_eq]
  iintro ⟨⟨Hk, Ht, Hb⟩, Hid⟩
  ihave Hk := (done_slots c) $$ Hk
  icases Hk with ⟨Hs, Hl, HzS, HzV⟩
  ihave Ht := (done_tiles m c) $$ Ht
  icases Ht with ⟨Ho, Hg, HzT⟩
  ihave Ho := (pasteO m c) $$ Ho
  isplitl [Hb Ho]
  · isplitl [Hb] <;> iassumption
  isplitl [HzS HzV HzT]
  · isplitl [HzS HzV]
    · isplitl [HzS] <;> iassumption
    iexact HzT
  iapply (scratch_paste c)
  isplitl [Hs]; · iexact Hs
  isplitl [Hl]; · iexact Hl
  isplitl [Hg] <;> iassumption

/-! ## The run -/

/-- What a run ends in: on each device the two operands as they were, and the result at `outAt`. -/
def Ends (r : PUnit × MemSt nD τ sig (Elt F)) : Prop := ∀ c : Dev nD,
  (r.2.mem ((c : Thread nD τ).loc main_arg0) = m ((c : Thread nD τ).loc main_arg0)
    ∧ r.2.mem ((c : Thread nD τ).loc main_arg1) = m ((c : Thread nD τ).loc main_arg1))
  ∧ r.2.mem ((c : Thread nD τ).loc main_v1) = outAt m c

theorem kept0 (c : Dev nD) : (dats m ρ 0 c).arrAt (0 : Fin 2) cfg0.N = m ((c : Thread nD τ).loc main_arg0) :=
  (dats (F := F) m ρ 0 c).arrAt_in (0 : Fin 2) rfl _
theorem kept1 (c : Dev nD) : (dats m ρ 0 c).arrAt (1 : Fin 2) cfg0.N = m ((c : Thread nD τ).loc main_arg1) :=
  (dats (F := F) m ρ 0 c).arrAt_in (1 : Fin 2) rfl _

set_option maxRecDepth 8000 in
/-- At the mesh of four devices, for any float values, from any memory with zero counters: every weakly fair execution
    of @main terminates, each device's operands are unchanged, its result holds the chunk of the reduced and activated
    product, and every counter is back at zero. -/
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_v1) = outAt m c)
    (hY := fun c s' => by
      unfold left
      iintro ⟨⟨Hu, Ho⟩, -, HSI⟩
      imod (Pipeline.unscopedSems0_read (X := unscopedSems0 c) (c := c) fupd_intro s') $$ [Hu HSI] with ⟨%h1, HSI⟩
      · isplitl [Hu] <;> iassumption
      ihave H := (pointsTo_read_all {()} (fun _ => (c : Thread nD τ).loc main_v1) (fun _ => outAt m c) s') $$ [Ho HSI]
      · rw [bigSep_singleton]; isplitl [Ho] <;> iassumption
      icases H with ⟨%h2, HSI⟩
      imodintro
      isplitr
      · ipureintro; exact ⟨h1, h2 () (Finset.mem_singleton_self _)⟩
      iexact HSI)
    (hQ := fun _ h hs => ⟨fun c => ⟨⟨((h c).1 (0 : Fin 2)).trans (kept0 m ρ c), ((h c).1 (1 : Fin 2)).trans (kept1 m ρ c)⟩, (h c).2.2.2⟩,
      sem_eq_zero hs fun c => (h c).2.2.1⟩)

end Cert.Gemm

end
-- ==== Proof.Algebra.lean ====
/- The reference's result at the ideal values, and that each device's result is its chunk of it. -/
module

public import proofs.«01_k».proof.Proof.Value
public import proofs.«01_k».proof.Proof.Launch
public import proofs.«01_k».proof.Proof.Gen.ReferenceIdeal.Run
public import Idealize.ShloMosaic.Lib.Layout
public import Idealize.ShloMosaic.Lib.StackMember

@[expose] public section

noncomputable section

namespace Cert.Gemm

open Idealize.ShloMosaic
open Idealize.ShloMosaic.TcCoe
open Idealize.ShloMosaic.ValueIdx

/-- The shapes of an operand in full, of a device's columns of the first and of its rows of the second. -/
local notation "Full" => (⟨2, ![2048, 2048]⟩ : Shape)
local notation "Cols" => (⟨2, ![2048, 512]⟩ : Shape)
local notation "Rows" => (⟨2, ![512, 2048]⟩ : Shape)

/-! ## The reference -/

/-- The reference's product. -/
def refMul (X W : FVec Ideal Full .bf16) : FVec Ideal Full .f32 :=
  extf .f32 (truncf .bf16 (Host.dotGeneral Cert.ReferenceIdeal.dot_S2048x2048_S2048x2048_S2048x2048_1_0_0_1_n_n none
    (extf .f32 X Cert.ReferenceIdeal.Gen.bitsLt_bf16_f32) (extf .f32 W Cert.ReferenceIdeal.Gen.bitsLt_bf16_f32) : FVec Ideal Full .f32)
    Cert.ReferenceIdeal.Gen.bitsLt_bf16_f32) Cert.ReferenceIdeal.Gen.bitsLt_bf16_f32

/-- A number at every entry. -/
def splat (b : BitVec 32) : FVec Ideal Full .f32 :=
  broadcastInDim Cert.ReferenceIdeal.S2048x2048 ![] Cert.ReferenceIdeal.Gen.bcast_S_S2048x2048 (constant Cert.ReferenceIdeal.S_ .f32 b)

/-- The reference's result. -/
def refOut (X W : FVec Ideal Full .bf16) : FVec Ideal Full .f32 :=
  mulf (mulf (splat 0x3F000000#32) (refMul X W)) (addf (splat 0x3F800000#32) (Host.tanh (mulf (splat 0x3F4C422A#32)
    (addf (refMul X W) (mulf (splat 0x3D372713#32) (mulf (mulf (refMul X W) (refMul X W)) (refMul X W)))))))

theorem refMul_apply (X W : FVec Ideal Full .bf16) (r q : Fin 2048) :
    refMul X W (ix2 r q) = ∑ k : Fin 2048, X (ix2 r k) * W (ix2 k q) :=
  StackMember.dotGeneral_plain_apply (m := 2048) (n := 2048) (φ₁ := .f32) (φ₂ := .f32) none
    (extf .f32 X Cert.ReferenceIdeal.Gen.bitsLt_bf16_f32) (extf .f32 W Cert.ReferenceIdeal.Gen.bitsLt_bf16_f32) r q

/-- The activation with its cube multiplied out first is the kernel's. -/
theorem act_cube (y : EReal) :
    (Ideal.ofBits .f32 0x3F000000#32 * y)
      * (Ideal.ofBits .f32 0x3F800000#32 + Ideal.tanh (Ideal.ofBits .f32 0x3F4C422A#32 * (y + Ideal.ofBits .f32 0x3D372713#32 * (y * y * y))))
    = act y := by
  unfold act
  rw [← mul_assoc, ← mul_assoc]

theorem refOut_apply (X W : FVec Ideal Full .bf16) (r q : Fin 2048) :
    refOut X W (ix2 r q) = act (∑ k : Fin 2048, X (ix2 r k) * W (ix2 k q)) := by
  rw [← refMul_apply]
  exact act_cube (refMul X W (ix2 r q))

/-! ## The devices' chunks of it -/

/-- A sum over all 2048 contracted columns is the sum over the devices of the sums over their 512. -/
theorem sum_split (f : Fin 2048 → EReal) :
    ∑ p : Fin 4, ∑ k : Fin 512, f ⟨512 * p.val + k.val, by have := p.isLt; have := k.isLt; omega⟩ = ∑ k : Fin 2048, f k := by
  rw [← Equiv.sum_comp (finProdFinEquiv : Fin 4 × Fin 512 ≃ Fin (4 * 512)) f, Fintype.sum_prod_type]
  exact Finset.sum_congr rfl fun p _ => Finset.sum_congr rfl fun k _ => congrArg f (Fin.ext (Nat.add_comm _ _))

section
variable (m : (ℓ : Loc Cert.KernelIdeal.nD Cert.KernelIdeal.τ Cert.KernelIdeal.sig) → Buf (Elt Ideal) ℓ)
variable (X W : FVec Ideal Full .bf16)

theorem xE_block (c : Dev Cert.KernelIdeal.nD)
    (h : m ((c : Thread Cert.KernelIdeal.nD Cert.KernelIdeal.τ).loc Cert.KernelIdeal.main_arg0) = Layout.block Cols Full 1 4 c X)
    (r : Fin 2048) (k : Fin 512) :
    xE m c r.val k.val = X (ix2 r ⟨512 * c.val + k.val, by have := c.isLt; have := k.isLt; simp [Cert.KernelIdeal.nD] at *; omega⟩) := by
  unfold xE
  refine (congrFun h _).trans ?_
  rw [Layout.block_apply]
  refine congrArg X (funext fun a => Fin.ext ?_)
  match a with
  | ⟨0, _⟩ => exact Nat.mod_eq_of_lt r.isLt
  | ⟨1, _⟩ =>
    show c.val * 512 + k.val % 512 = 512 * c.val + k.val
    rw [Nat.mod_eq_of_lt k.isLt, Nat.mul_comm]

theorem wE_block (c : Dev Cert.KernelIdeal.nD)
    (h : m ((c : Thread Cert.KernelIdeal.nD Cert.KernelIdeal.τ).loc Cert.KernelIdeal.main_arg1) = Layout.block Rows Full 0 4 c W)
    (k : Fin 512) (q : Fin 2048) :
    wE m c k.val q.val = W (ix2 ⟨512 * c.val + k.val, by have := c.isLt; have := k.isLt; simp [Cert.KernelIdeal.nD] at *; omega⟩ q) := by
  unfold wE
  refine (congrFun h _).trans ?_
  rw [Layout.block_apply]
  refine congrArg W (funext fun a => Fin.ext ?_)
  match a with
  | ⟨0, _⟩ =>
    show c.val * 512 + k.val % 512 = 512 * c.val + k.val
    rw [Nat.mod_eq_of_lt k.isLt, Nat.mul_comm]
  | ⟨1, _⟩ => exact Nat.mod_eq_of_lt q.isLt

/-- With the operands dealt out in blocks, the devices' products sum to the whole product. -/
theorem parts_sum
    (hx : ∀ c : Dev Cert.KernelIdeal.nD, m ((c : Thread Cert.KernelIdeal.nD Cert.KernelIdeal.τ).loc Cert.KernelIdeal.main_arg0) = Layout.block Cols Full 1 4 c X)
    (hw : ∀ c : Dev Cert.KernelIdeal.nD, m ((c : Thread Cert.KernelIdeal.nD Cert.KernelIdeal.τ).loc Cert.KernelIdeal.main_arg1) = Layout.block Rows Full 0 4 c W)
    (r q : Fin 2048) :
    ∑ p : Dev Cert.KernelIdeal.nD, part m p r.val q.val = ∑ k : Fin 2048, X (ix2 r k) * W (ix2 k q) := by
  rw [← sum_split fun k => X (ix2 r k) * W (ix2 k q)]
  refine Finset.sum_congr rfl fun p _ => Finset.sum_congr rfl fun k _ => ?_
  rw [xE_block m X p (hx p) r k, wE_block m W p (hw p) k q]

/-- A device's result is its block of rows of the reference's. -/
theorem outAt_block
    (hx : ∀ c : Dev Cert.KernelIdeal.nD, m ((c : Thread Cert.KernelIdeal.nD Cert.KernelIdeal.τ).loc Cert.KernelIdeal.main_arg0) = Layout.block Cols Full 1 4 c X)
    (hw : ∀ c : Dev Cert.KernelIdeal.nD, m ((c : Thread Cert.KernelIdeal.nD Cert.KernelIdeal.τ).loc Cert.KernelIdeal.main_arg1) = Layout.block Rows Full 0 4 c W)
    (c : Dev Cert.KernelIdeal.nD) :
    outAt m c = Layout.block Rows Full 0 4 c (refOut X W) := by
  funext i
  have hi : i = ix2 (i 0) (i 1) := funext fun a => by
    match a with
    | ⟨0, _⟩ => rfl
    | ⟨1, _⟩ => rfl
  have hc : c.val < 4 := c.isLt
  have h0 : (i 0).val < 512 := (i 0).isLt
  have hr : 512 * c.val + (i 0).val < 2048 := by omega
  rw [hi]
  refine (outAt_eq m c (i 0) (i 1)).trans ?_
  refine (congrArg act (parts_sum m X W hx hw ⟨512 * c.val + (i 0).val, hr⟩ (i 1))).trans ?_
  refine (refOut_apply X W ⟨512 * c.val + (i 0).val, hr⟩ (i 1)).symm.trans ?_
  refine congrArg (refOut X W) (funext fun a => Fin.ext ?_)
  match a with
  | ⟨0, _⟩ => exact congrArg (· + (i 0).val) (Nat.mul_comm _ _)
  | ⟨1, _⟩ => rfl
end

end Cert.Gemm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebra
public import proofs.«01_k».proof.Proof.Launch
public import Idealize.ShloMosaic.Adequacy
public import Idealize.ShloMosaic.Init

@[expose] public section

noncomputable section

namespace Cert.Proof

open Idealize.ShloMosaic Idealize.SL.Sem Cert.Kernel

/-- The kernel runs over any float values, leaves its arguments and returns every counter to zero. -/
theorem frame_run {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).1, h.2⟩) (Cert.Gemm.run_main m ρ)

theorem frame_kernelIdeal : Cert.quiescent_KernelIdeal := fun m ρ _ => frame_run (F := Ideal) m ρ

set_option smartUnfolding false in
/-- The kernel as first written is the same program. -/
theorem frame_kernel : Cert.quiescent_Kernel := fun m ρ _ => frame_run (F := Bits) m ρ

/-- The reference runs, leaves its arguments, and has no counters. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From operands dealt out in blocks, each device ends with its block of rows of the reference's result. -/
theorem algebraic_claim : Cert.algebraic_KernelIdeal_ReferenceIdeal := fun m ρ m' ρ' _ h =>
  ⟨Cert.Gemm.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ e c => ⟨(e.1 c).2.trans (Cert.Gemm.outAt_block m _ _ (fun c => (h c).1) (fun c => (h c).2) c), (e.1 c).1⟩)
      (Cert.Gemm.run_main (F := Ideal) m ρ),
    (θ_run Cert.ReferenceIdeal.defs _ _).mono (fun _ e => e 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic_claim⟩

end Cert.Proof

end
